-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S1024x1024 : Shape := ⟨2, ![1024, 1024]⟩
abbrev S7x128x1024 : Shape := ⟨3, ![7, 128, 1024]⟩
abbrev S3x7 : Shape := ⟨2, ![3, 7]⟩
abbrev S_ : Shape := ⟨0, ![]⟩
abbrev S1x512x1024 : Shape := ⟨3, ![1, 512, 1024]⟩
abbrev S512x1024 : Shape := ⟨2, ![512, 1024]⟩
abbrev S1x1 : Shape := ⟨2, ![1, 1]⟩
abbrev S1x128x384 : Shape := ⟨3, ![1, 128, 384]⟩
abbrev S128x384 : Shape := ⟨2, ![128, 384]⟩
abbrev S1x128x256 : Shape := ⟨3, ![1, 128, 256]⟩
abbrev S128x256 : Shape := ⟨2, ![128, 256]⟩
abbrev S128x1024 : Shape := ⟨2, ![128, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S1024x1, .i32⟩
  | .local _ .vmem, ⟨2, _⟩ => ⟨S4x512x1024, .f32⟩
  | .local _ .vmem, ⟨3, _⟩ => ⟨S1024x1024, .f32⟩
  | .local _ .vmem, ⟨4, _⟩ => ⟨S1024x1024, .f32⟩
  | .local _ .vmem, ⟨5, _⟩ => ⟨S7x128x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  (ofTc nBuf bufTy 1 88 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_6 : BitVec 32 := 1#32
  let v13 : BitVec 32 := Scalar.muli v9 c1_i32_6
  let v14 : BitVec 32 := Scalar.addi c0_i32 v13
  v14.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_8 : BitVec 32 := 1#32
  let v15 : BitVec 32 := Scalar.muli v10 c1_i32_8
  let v16 : BitVec 32 := Scalar.addi c0_i32_9 v15
  v16.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_11 : BitVec 32 := 1#32
  let v17 : BitVec 32 := Scalar.muli v11 c1_i32_11
  let v18 : BitVec 32 := Scalar.addi c0_i32_12 v17
  v18.toNat
def k0_off1 (d0 : Dev nD) (c0_i32_54 : BitVec 32) (c0_i32_55 : BitVec 32) : Fin 2 → Nat :=
  let c0_i32_53 : BitVec 32 := 0#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v85 : BitVec 32 := Scalar.subi c1_i32_51 v8
  let c1_i32_52 : BitVec 32 := 1#32
  let v86 : BitVec 32 := Scalar.muli v85 c1_i32_52
  let v87 : BitVec 32 := Scalar.addi c0_i32_53 v86
  let v88 : BitVec 32 := Scalar.addi v87 c0_i32_54
  let v89 : BitVec 32 := Scalar.addi v88 c0_i32_55
  let c128_i32 : BitVec 32 := 128#32
  let v94 : BitVec 32 := Scalar.muli v89 c128_i32
  let c0_i32_69 : BitVec 32 := 0#32
  ![v94.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_65 : BitVec 32 := 1#32
  let v95 : BitVec 32 := Scalar.muli v9 c1_i32_65
  let v96 : BitVec 32 := Scalar.addi c0_i32_66 v95
  v96.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_85 : BitVec 32 := 1#32
  let v114 : BitVec 32 := Scalar.muli v9 c1_i32_85
  let v115 : BitVec 32 := Scalar.addi c0_i32_86 v114
  v115.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_105 : BitVec 32 := 1#32
  let v133 : BitVec 32 := Scalar.muli v9 c1_i32_105
  let v134 : BitVec 32 := Scalar.addi c0_i32_106 v133
  v134.toNat
def k0_dev7 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_125 : BitVec 32 := 1#32
  let v152 : BitVec 32 := Scalar.muli v9 c1_i32_125
  let v153 : BitVec 32 := Scalar.addi c0_i32_126 v152
  v153.toNat
def k0_off2 (d0 : Dev nD) (c0_i32_133 : BitVec 32) (c0_i32_134 : BitVec 32) : Fin 2 → Nat :=
  let c0_i32_132 : BitVec 32 := 0#32
  let c1_i32_130 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v161 : BitVec 32 := Scalar.subi c1_i32_130 v5
  let c2_i32_131 : BitVec 32 := 2#32
  let v162 : BitVec 32 := Scalar.muli v161 c2_i32_131
  let v163 : BitVec 32 := Scalar.addi c0_i32_132 v162
  let v164 : BitVec 32 := Scalar.addi v163 c0_i32_133
  let v165 : BitVec 32 := Scalar.addi v164 c0_i32_134
  let c128_i32_139 : BitVec 32 := 128#32
  let v170 : BitVec 32 := Scalar.muli v165 c128_i32_139
  let c384_i32_148 : BitVec 32 := 384#32
  ![v170.toNat, 384]
def k0_dev8 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_145 : BitVec 32 := 1#32
  let v171 : BitVec 32 := Scalar.muli v10 c1_i32_145
  let v172 : BitVec 32 := Scalar.addi c0_i32_146 v171
  v172.toNat
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_164 : BitVec 32 := 1#32
  let v190 : BitVec 32 := Scalar.muli v10 c1_i32_164
  let v191 : BitVec 32 := Scalar.addi c0_i32_165 v190
  v191.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_184 : BitVec 32 := 1#32
  let v209 : BitVec 32 := Scalar.muli v10 c1_i32_184
  let v210 : BitVec 32 := Scalar.addi c0_i32_185 v209
  v210.toNat
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_204 : BitVec 32 := 1#32
  let v228 : BitVec 32 := Scalar.muli v10 c1_i32_204
  let v229 : BitVec 32 := Scalar.addi c0_i32_205 v228
  v229.toNat
def k0_off3 (d0 : Dev nD) (c0_i32_212 : BitVec 32) (c0_i32_213 : BitVec 32) : Fin 2 → Nat :=
  let c0_i32_211 : BitVec 32 := 0#32
  let c1_i32_209 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v237 : BitVec 32 := Scalar.subi c1_i32_209 v7
  let c4_i32_210 : BitVec 32 := 4#32
  let v238 : BitVec 32 := Scalar.muli v237 c4_i32_210
  let v239 : BitVec 32 := Scalar.addi c0_i32_211 v238
  let v240 : BitVec 32 := Scalar.addi v239 c0_i32_212
  let v241 : BitVec 32 := Scalar.addi v240 c0_i32_213
  let c128_i32_218 : BitVec 32 := 128#32
  let v246 : BitVec 32 := Scalar.muli v241 c128_i32_218
  let c768_i32_227 : BitVec 32 := 768#32
  ![v246.toNat, 768]
def k0_dev12 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_224 : BitVec 32 := 1#32
  let v247 : BitVec 32 := Scalar.muli v11 c1_i32_224
  let v248 : BitVec 32 := Scalar.addi c0_i32_225 v247
  v248.toNat
def k0_dev13 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_243 : BitVec 32 := 1#32
  let v266 : BitVec 32 := Scalar.muli v11 c1_i32_243
  let v267 : BitVec 32 := Scalar.addi c0_i32_244 v266
  v267.toNat
def k0_dev14 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_263 : BitVec 32 := 1#32
  let v285 : BitVec 32 := Scalar.muli v11 c1_i32_263
  let v286 : BitVec 32 := Scalar.addi c0_i32_264 v285
  v286.toNat
def k0_dev15 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_283 : BitVec 32 := 1#32
  let v304 : BitVec 32 := Scalar.muli v11 c1_i32_283
  let v305 : BitVec 32 := Scalar.addi c0_i32_284 v304
  v305.toNat
def k0_off4 (d0 : Dev nD) (c0_i32_58 : BitVec 32) (c0_i32_59 : BitVec 32) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_56 : BitVec 32 := 1#32
  let v90 : BitVec 32 := Scalar.muli v8 c1_i32_56
  let v91 : BitVec 32 := Scalar.addi c0_i32_57 v90
  let v92 : BitVec 32 := Scalar.addi v91 c0_i32_58
  let v93 : BitVec 32 := Scalar.addi v92 c0_i32_59
  let c128_i32_307 : BitVec 32 := 128#32
  let v325 : BitVec 32 := Scalar.muli v93 c128_i32_307
  let v326 : Index := Scalar.indexCast v325
  let c0_308 : Index := 0#32
  ![v326.toNat, 0]
def k0_off5 (d0 : Dev nD) (c0_i32_137 : BitVec 32) (c0_i32_138 : BitVec 32) : Fin 2 → Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_135 : BitVec 32 := 2#32
  let v166 : BitVec 32 := Scalar.muli v5 c2_i32_135
  let v167 : BitVec 32 := Scalar.addi c0_i32_136 v166
  let v168 : BitVec 32 := Scalar.addi v167 c0_i32_137
  let v169 : BitVec 32 := Scalar.addi v168 c0_i32_138
  let c128_i32_411 : BitVec 32 := 128#32
  let v417 : BitVec 32 := Scalar.muli v169 c128_i32_411
  let v418 : Index := Scalar.indexCast v417
  let c384 : Index := 384#32
  ![v418.toNat, 384]
def k0_off6 (d0 : Dev nD) (c0_i32_216 : BitVec 32) (c0_i32_217 : BitVec 32) : Fin 2 → Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_214 : BitVec 32 := 4#32
  let v242 : BitVec 32 := Scalar.muli v7 c4_i32_214
  let v243 : BitVec 32 := Scalar.addi c0_i32_215 v242
  let v244 : BitVec 32 := Scalar.addi v243 c0_i32_216
  let v245 : BitVec 32 := Scalar.addi v244 c0_i32_217
  let c128_i32_514 : BitVec 32 := 128#32
  let v509 : BitVec 32 := Scalar.muli v245 c128_i32_514
  let v510 : Index := Scalar.indexCast v509
  let c768 : Index := 768#32
  ![v510.toNat, 768]
def k0_off7 (d0 : Dev nD) (c0_i32_602 : BitVec 32) : Fin 2 → Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_598 : BitVec 32 := 1#32
  let v589 : BitVec 32 := Scalar.muli v8 c1_i32_598
  let v590 : BitVec 32 := Scalar.addi c0_i32_599 v589
  let c1_i32_600 : BitVec 32 := 1#32
  let v591 : BitVec 32 := Scalar.subi c1_i32_600 v5
  let c2_i32_601 : BitVec 32 := 2#32
  let v592 : BitVec 32 := Scalar.muli v591 c2_i32_601
  let v593 : BitVec 32 := Scalar.addi v590 v592
  let v594 : BitVec 32 := Scalar.addi v593 c0_i32_602
  let c128_i32_607 : BitVec 32 := 128#32
  let v600 : BitVec 32 := Scalar.muli v594 c128_i32_607
  let c0_i32_617 : BitVec 32 := 0#32
  ![v600.toNat, 0]
def k0_dev16 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_613 : BitVec 32 := 1#32
  let v601 : BitVec 32 := Scalar.muli v10 c1_i32_613
  let v602 : BitVec 32 := Scalar.addi c0_i32_614 v601
  v602.toNat
def k0_dev17 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_632 : BitVec 32 := 1#32
  let v622 : BitVec 32 := Scalar.muli v10 c1_i32_632
  let v623 : BitVec 32 := Scalar.addi c0_i32_633 v622
  v623.toNat
def k0_off8 (d0 : Dev nD) (c0_i32_641 : BitVec 32) : Fin 2 → Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_637 : BitVec 32 := 2#32
  let v631 : BitVec 32 := Scalar.muli v5 c2_i32_637
  let v632 : BitVec 32 := Scalar.addi c0_i32_638 v631
  let c1_i32_639 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v633 : BitVec 32 := Scalar.subi c1_i32_639 v7
  let c4_i32_640 : BitVec 32 := 4#32
  let v634 : BitVec 32 := Scalar.muli v633 c4_i32_640
  let v635 : BitVec 32 := Scalar.addi v632 v634
  let v636 : BitVec 32 := Scalar.addi v635 c0_i32_641
  let c128_i32_646 : BitVec 32 := 128#32
  let v642 : BitVec 32 := Scalar.muli v636 c128_i32_646
  let c384_i32_656 : BitVec 32 := 384#32
  ![v642.toNat, 384]
def k0_dev18 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_652 : BitVec 32 := 1#32
  let v643 : BitVec 32 := Scalar.muli v11 c1_i32_652
  let v644 : BitVec 32 := Scalar.addi c0_i32_653 v643
  v644.toNat
def k0_dev19 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_672 : BitVec 32 := 1#32
  let v664 : BitVec 32 := Scalar.muli v11 c1_i32_672
  let v665 : BitVec 32 := Scalar.addi c0_i32_673 v664
  v665.toNat
def k0_off9 (d0 : Dev nD) (c0_i32_681 : BitVec 32) : Fin 2 → Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_677 : BitVec 32 := 4#32
  let v673 : BitVec 32 := Scalar.muli v7 c4_i32_677
  let v674 : BitVec 32 := Scalar.addi c0_i32_678 v673
  let c1_i32_679 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v675 : BitVec 32 := Scalar.subi c1_i32_679 v8
  let c1_i32_680 : BitVec 32 := 1#32
  let v676 : BitVec 32 := Scalar.muli v675 c1_i32_680
  let v677 : BitVec 32 := Scalar.addi v674 v676
  let v678 : BitVec 32 := Scalar.addi v677 c0_i32_681
  let c128_i32_686 : BitVec 32 := 128#32
  let v684 : BitVec 32 := Scalar.muli v678 c128_i32_686
  let c768_i32_696 : BitVec 32 := 768#32
  ![v684.toNat, 768]
def k0_dev20 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_692 : BitVec 32 := 1#32
  let v685 : BitVec 32 := Scalar.muli v9 c1_i32_692
  let v686 : BitVec 32 := Scalar.addi c0_i32_693 v685
  v686.toNat
def k0_dev21 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_712 : BitVec 32 := 1#32
  let v706 : BitVec 32 := Scalar.muli v9 c1_i32_712
  let v707 : BitVec 32 := Scalar.addi c0_i32_713 v706
  v707.toNat
def k0_off10 (d0 : Dev nD) (c0_i32_606 : BitVec 32) : Fin 2 → Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_603 : BitVec 32 := 1#32
  let v595 : BitVec 32 := Scalar.muli v8 c1_i32_603
  let v596 : BitVec 32 := Scalar.addi c0_i32_604 v595
  let c2_i32_605 : BitVec 32 := 2#32
  let v597 : BitVec 32 := Scalar.muli v5 c2_i32_605
  let v598 : BitVec 32 := Scalar.addi v596 v597
  let v599 : BitVec 32 := Scalar.addi v598 c0_i32_606
  let c128_i32_736 : BitVec 32 := 128#32
  let v727 : BitVec 32 := Scalar.muli v599 c128_i32_736
  let v728 : Index := Scalar.indexCast v727
  let c0_737 : Index := 0#32
  ![v728.toNat, 0]
def k0_off11 (d0 : Dev nD) (c0_i32_645 : BitVec 32) : Fin 2 → Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_642 : BitVec 32 := 2#32
  let v637 : BitVec 32 := Scalar.muli v5 c2_i32_642
  let v638 : BitVec 32 := Scalar.addi c0_i32_643 v637
  let c2_i32 : BitVec 32 := 2#32
  let v6 : BitVec 32 := Scalar.shrsi v2 c2_i32
  let c1_i32_3 : BitVec 32 := 1#32
  let v7 : BitVec 32 := Scalar.andi v6 c1_i32_3
  let c4_i32_644 : BitVec 32 := 4#32
  let v639 : BitVec 32 := Scalar.muli v7 c4_i32_644
  let v640 : BitVec 32 := Scalar.addi v638 v639
  let v641 : BitVec 32 := Scalar.addi v640 c0_i32_645
  let c128_i32_786 : BitVec 32 := 128#32
  let v773 : BitVec 32 := Scalar.muli v641 c128_i32_786
  let v774 : Index := Scalar.indexCast v773
  let c384_787 : Index := 384#32
  ![v774.toNat, 384]
def k0_off12 (d0 : Dev nD) (c0_i32_685 : BitVec 32) : Fin 2 → Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_682 : BitVec 32 := 4#32
  let v679 : BitVec 32 := Scalar.muli v7 c4_i32_682
  let v680 : BitVec 32 := Scalar.addi c0_i32_683 v679
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_684 : BitVec 32 := 1#32
  let v681 : BitVec 32 := Scalar.muli v8 c1_i32_684
  let v682 : BitVec 32 := Scalar.addi v680 v681
  let v683 : BitVec 32 := Scalar.addi v682 c0_i32_685
  let c128_i32_838 : BitVec 32 := 128#32
  let v819 : BitVec 32 := Scalar.muli v683 c128_i32_838
  let v820 : Index := Scalar.indexCast v819
  let c768_839 : Index := 768#32
  ![v820.toNat, 768]
def k0_off13 (d0 : Dev nD) : Fin 2 → Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_871 : BitVec 32 := 1#32
  let v853 : BitVec 32 := Scalar.muli v8 c1_i32_871
  let v854 : BitVec 32 := Scalar.addi c0_i32_872 v853
  let c2_i32_873 : BitVec 32 := 2#32
  let v855 : BitVec 32 := Scalar.muli v5 c2_i32_873
  let v856 : BitVec 32 := Scalar.addi v854 v855
  let c1_i32_874 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v857 : BitVec 32 := Scalar.subi c1_i32_874 v7
  let c4_i32_875 : BitVec 32 := 4#32
  let v858 : BitVec 32 := Scalar.muli v857 c4_i32_875
  let v859 : BitVec 32 := Scalar.addi v856 v858
  let c128_i32_880 : BitVec 32 := 128#32
  let v866 : BitVec 32 := Scalar.muli v859 c128_i32_880
  let c0_i32_889 : BitVec 32 := 0#32
  ![v866.toNat, 0]
def k0_dev22 (d0 : Dev nD) : Nat :=
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_885 : BitVec 32 := 1#32
  let v867 : BitVec 32 := Scalar.muli v11 c1_i32_885
  let v868 : BitVec 32 := Scalar.addi c0_i32_886 v867
  v868.toNat
def k0_off14 (d0 : Dev nD) : Fin 2 → Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_890 : BitVec 32 := 2#32
  let v876 : BitVec 32 := Scalar.muli v5 c2_i32_890
  let v877 : BitVec 32 := Scalar.addi c0_i32_891 v876
  let c2_i32 : BitVec 32 := 2#32
  let v6 : BitVec 32 := Scalar.shrsi v2 c2_i32
  let c1_i32_3 : BitVec 32 := 1#32
  let v7 : BitVec 32 := Scalar.andi v6 c1_i32_3
  let c4_i32_892 : BitVec 32 := 4#32
  let v878 : BitVec 32 := Scalar.muli v7 c4_i32_892
  let v879 : BitVec 32 := Scalar.addi v877 v878
  let c1_i32_893 : BitVec 32 := 1#32
  let c1_i32_0 : BitVec 32 := 1#32
  let v3 : BitVec 32 := Scalar.andi v2 c1_i32_0
  let v8 : BitVec 32 := Scalar.xori v3 v5
  let v880 : BitVec 32 := Scalar.subi c1_i32_893 v8
  let c1_i32_894 : BitVec 32 := 1#32
  let v881 : BitVec 32 := Scalar.muli v880 c1_i32_894
  let v882 : BitVec 32 := Scalar.addi v879 v881
  let c128_i32_899 : BitVec 32 := 128#32
  let v889 : BitVec 32 := Scalar.muli v882 c128_i32_899
  let c384_i32_909 : BitVec 32 := 384#32
  ![v889.toNat, 384]
def k0_dev23 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_905 : BitVec 32 := 1#32
  let v890 : BitVec 32 := Scalar.muli v9 c1_i32_905
  let v891 : BitVec 32 := Scalar.addi c0_i32_906 v890
  v891.toNat
def k0_off15 (d0 : Dev nD) : Fin 2 → Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_910 : BitVec 32 := 4#32
  let v899 : BitVec 32 := Scalar.muli v7 c4_i32_910
  let v900 : BitVec 32 := Scalar.addi c0_i32_911 v899
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_912 : BitVec 32 := 1#32
  let v901 : BitVec 32 := Scalar.muli v8 c1_i32_912
  let v902 : BitVec 32 := Scalar.addi v900 v901
  let c1_i32_913 : BitVec 32 := 1#32
  let v903 : BitVec 32 := Scalar.subi c1_i32_913 v5
  let c2_i32_914 : BitVec 32 := 2#32
  let v904 : BitVec 32 := Scalar.muli v903 c2_i32_914
  let v905 : BitVec 32 := Scalar.addi v902 v904
  let c128_i32_919 : BitVec 32 := 128#32
  let v912 : BitVec 32 := Scalar.muli v905 c128_i32_919
  let c768_i32_929 : BitVec 32 := 768#32
  ![v912.toNat, 768]
def k0_dev24 (d0 : Dev nD) : Nat :=
  let c0_i32_926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_925 : BitVec 32 := 1#32
  let v913 : BitVec 32 := Scalar.muli v10 c1_i32_925
  let v914 : BitVec 32 := Scalar.addi c0_i32_926 v913
  v914.toNat
def k0_off16 (d0 : Dev nD) : Fin 2 → Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_876 : BitVec 32 := 1#32
  let v860 : BitVec 32 := Scalar.muli v8 c1_i32_876
  let v861 : BitVec 32 := Scalar.addi c0_i32_877 v860
  let c2_i32_878 : BitVec 32 := 2#32
  let v862 : BitVec 32 := Scalar.muli v5 c2_i32_878
  let v863 : BitVec 32 := Scalar.addi v861 v862
  let c2_i32 : BitVec 32 := 2#32
  let v6 : BitVec 32 := Scalar.shrsi v2 c2_i32
  let c1_i32_3 : BitVec 32 := 1#32
  let v7 : BitVec 32 := Scalar.andi v6 c1_i32_3
  let c4_i32_879 : BitVec 32 := 4#32
  let v864 : BitVec 32 := Scalar.muli v7 c4_i32_879
  let v865 : BitVec 32 := Scalar.addi v863 v864
  let c128_i32_949 : BitVec 32 := 128#32
  let v934 : BitVec 32 := Scalar.muli v865 c128_i32_949
  let v935 : Index := Scalar.indexCast v934
  let c0_950 : Index := 0#32
  ![v935.toNat, 0]
def k0_off17 (d0 : Dev nD) : Fin 2 → Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_895 : BitVec 32 := 2#32
  let v883 : BitVec 32 := Scalar.muli v5 c2_i32_895
  let v884 : BitVec 32 := Scalar.addi c0_i32_896 v883
  let c2_i32 : BitVec 32 := 2#32
  let v6 : BitVec 32 := Scalar.shrsi v2 c2_i32
  let c1_i32_3 : BitVec 32 := 1#32
  let v7 : BitVec 32 := Scalar.andi v6 c1_i32_3
  let c4_i32_897 : BitVec 32 := 4#32
  let v885 : BitVec 32 := Scalar.muli v7 c4_i32_897
  let v886 : BitVec 32 := Scalar.addi v884 v885
  let c1_i32_0 : BitVec 32 := 1#32
  let v3 : BitVec 32 := Scalar.andi v2 c1_i32_0
  let v8 : BitVec 32 := Scalar.xori v3 v5
  let c1_i32_898 : BitVec 32 := 1#32
  let v887 : BitVec 32 := Scalar.muli v8 c1_i32_898
  let v888 : BitVec 32 := Scalar.addi v886 v887
  let c128_i32_974 : BitVec 32 := 128#32
  let v957 : BitVec 32 := Scalar.muli v888 c128_i32_974
  let v958 : Index := Scalar.indexCast v957
  let c384_975 : Index := 384#32
  ![v958.toNat, 384]
def k0_off18 (d0 : Dev nD) : Fin 2 → Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_915 : BitVec 32 := 4#32
  let v906 : BitVec 32 := Scalar.muli v7 c4_i32_915
  let v907 : BitVec 32 := Scalar.addi c0_i32_916 v906
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_917 : BitVec 32 := 1#32
  let v908 : BitVec 32 := Scalar.muli v8 c1_i32_917
  let v909 : BitVec 32 := Scalar.addi v907 v908
  let c2_i32_918 : BitVec 32 := 2#32
  let v910 : BitVec 32 := Scalar.muli v5 c2_i32_918
  let v911 : BitVec 32 := Scalar.addi v909 v910
  let c128_i32_1000 : BitVec 32 := 128#32
  let v980 : BitVec 32 := Scalar.muli v911 c128_i32_1000
  let v981 : Index := Scalar.indexCast v980
  let c768_1001 : Index := 768#32
  ![v981.toNat, 768]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_1007 : BitVec 32 := 2#32
  let v991 : BitVec 32 := Scalar.muli c2_i32_1007 v5
  let v992 : BitVec 32 := Scalar.addi v8 v991
  let c4_i32_1008 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v993 : BitVec 32 := Scalar.muli c4_i32_1008 v7
  let v994 : BitVec 32 := Scalar.addi v992 v993
  let c128_i32_1009 : BitVec 32 := 128#32
  let v995 : BitVec 32 := Scalar.muli v994 c128_i32_1009
  let v996 : Index := Scalar.indexCast v995
  let c0_1010 : Index := 0#32
  ![v996.toNat, 0]
def k0_off20 (d0 : Dev nD) : Fin 2 → Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_1013 : BitVec 32 := 1#32
  let v1001 : BitVec 32 := Scalar.muli v8 c1_i32_1013
  let v1002 : BitVec 32 := Scalar.addi c0_i32_1014 v1001
  let c2_i32_1015 : BitVec 32 := 2#32
  let v1003 : BitVec 32 := Scalar.muli v5 c2_i32_1015
  let v1004 : BitVec 32 := Scalar.addi v1002 v1003
  let c2_i32 : BitVec 32 := 2#32
  let v6 : BitVec 32 := Scalar.shrsi v2 c2_i32
  let c1_i32_3 : BitVec 32 := 1#32
  let v7 : BitVec 32 := Scalar.andi v6 c1_i32_3
  let c4_i32_1016 : BitVec 32 := 4#32
  let v1005 : BitVec 32 := Scalar.muli v7 c4_i32_1016
  let v1006 : BitVec 32 := Scalar.addi v1004 v1005
  let c128_i32_1018 : BitVec 32 := 128#32
  let v1008 : BitVec 32 := Scalar.muli v1006 c128_i32_1018
  let c0_i32_1025 : BitVec 32 := 0#32
  ![v1008.toNat, 0]
def k0_dev25 (d0 : Dev nD) : Nat :=
  let c0_i32_1024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1023 : BitVec 32 := 1#32
  let v1009 : BitVec 32 := Scalar.muli v11 c1_i32_1023
  let v1010 : BitVec 32 := Scalar.addi c0_i32_1024 v1009
  v1010.toNat
def k0_off21 (d0 : Dev nD) : Fin 2 → Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_1027 : BitVec 32 := 2#32
  let v1017 : BitVec 32 := Scalar.muli v5 c2_i32_1027
  let v1018 : BitVec 32 := Scalar.addi c0_i32_1028 v1017
  let c2_i32 : BitVec 32 := 2#32
  let v6 : BitVec 32 := Scalar.shrsi v2 c2_i32
  let c1_i32_3 : BitVec 32 := 1#32
  let v7 : BitVec 32 := Scalar.andi v6 c1_i32_3
  let c4_i32_1029 : BitVec 32 := 4#32
  let v1019 : BitVec 32 := Scalar.muli v7 c4_i32_1029
  let v1020 : BitVec 32 := Scalar.addi v1018 v1019
  let c1_i32_0 : BitVec 32 := 1#32
  let v3 : BitVec 32 := Scalar.andi v2 c1_i32_0
  let v8 : BitVec 32 := Scalar.xori v3 v5
  let c1_i32_1030 : BitVec 32 := 1#32
  let v1021 : BitVec 32 := Scalar.muli v8 c1_i32_1030
  let v1022 : BitVec 32 := Scalar.addi v1020 v1021
  let c128_i32_1032 : BitVec 32 := 128#32
  let v1024 : BitVec 32 := Scalar.muli v1022 c128_i32_1032
  let c384_i32_1039 : BitVec 32 := 384#32
  ![v1024.toNat, 384]
def k0_dev26 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1037 : BitVec 32 := 1#32
  let v1025 : BitVec 32 := Scalar.muli v9 c1_i32_1037
  let v1026 : BitVec 32 := Scalar.addi c0_i32_1038 v1025
  v1026.toNat
def k0_off22 (d0 : Dev nD) : Fin 2 → Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_1041 : BitVec 32 := 4#32
  let v1033 : BitVec 32 := Scalar.muli v7 c4_i32_1041
  let v1034 : BitVec 32 := Scalar.addi c0_i32_1042 v1033
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_1043 : BitVec 32 := 1#32
  let v1035 : BitVec 32 := Scalar.muli v8 c1_i32_1043
  let v1036 : BitVec 32 := Scalar.addi v1034 v1035
  let c2_i32_1044 : BitVec 32 := 2#32
  let v1037 : BitVec 32 := Scalar.muli v5 c2_i32_1044
  let v1038 : BitVec 32 := Scalar.addi v1036 v1037
  let c128_i32_1046 : BitVec 32 := 128#32
  let v1040 : BitVec 32 := Scalar.muli v1038 c128_i32_1046
  let c768_i32_1053 : BitVec 32 := 768#32
  ![v1040.toNat, 768]
def k0_dev27 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1051 : BitVec 32 := 1#32
  let v1041 : BitVec 32 := Scalar.muli v10 c1_i32_1051
  let v1042 : BitVec 32 := Scalar.addi c0_i32_1052 v1041
  v1042.toNat
def k0_off23 (d0 : Dev nD) (c0_i32_1103 : BitVec 32) : Fin 2 → Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_1100 : BitVec 32 := 1#32
  let v1079 : BitVec 32 := Scalar.muli v8 c1_i32_1100
  let v1080 : BitVec 32 := Scalar.addi c0_i32_1101 v1079
  let c2_i32_1102 : BitVec 32 := 2#32
  let v1081 : BitVec 32 := Scalar.muli v5 c2_i32_1102
  let v1082 : BitVec 32 := Scalar.addi v1080 v1081
  let v1083 : BitVec 32 := Scalar.addi v1082 c0_i32_1103
  let c128_i32_1105 : BitVec 32 := 128#32
  let v1085 : BitVec 32 := Scalar.muli v1083 c128_i32_1105
  let c0_i32_1112 : BitVec 32 := 0#32
  ![v1085.toNat, 0]
def k0_dev28 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1110 : BitVec 32 := 1#32
  let v1086 : BitVec 32 := Scalar.muli v10 c1_i32_1110
  let v1087 : BitVec 32 := Scalar.addi c0_i32_1111 v1086
  v1087.toNat
def k0_dev29 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1124 : BitVec 32 := 1#32
  let v1101 : BitVec 32 := Scalar.muli v10 c1_i32_1124
  let v1102 : BitVec 32 := Scalar.addi c0_i32_1125 v1101
  v1102.toNat
def k0_off24 (d0 : Dev nD) (c0_i32_1131 : BitVec 32) : Fin 2 → Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_1128 : BitVec 32 := 2#32
  let v1109 : BitVec 32 := Scalar.muli v5 c2_i32_1128
  let v1110 : BitVec 32 := Scalar.addi c0_i32_1129 v1109
  let c2_i32 : BitVec 32 := 2#32
  let v6 : BitVec 32 := Scalar.shrsi v2 c2_i32
  let c1_i32_3 : BitVec 32 := 1#32
  let v7 : BitVec 32 := Scalar.andi v6 c1_i32_3
  let c4_i32_1130 : BitVec 32 := 4#32
  let v1111 : BitVec 32 := Scalar.muli v7 c4_i32_1130
  let v1112 : BitVec 32 := Scalar.addi v1110 v1111
  let v1113 : BitVec 32 := Scalar.addi v1112 c0_i32_1131
  let c128_i32_1133 : BitVec 32 := 128#32
  let v1115 : BitVec 32 := Scalar.muli v1113 c128_i32_1133
  let c384_i32_1140 : BitVec 32 := 384#32
  ![v1115.toNat, 384]
def k0_dev30 (d0 : Dev nD) : Nat :=
  let c0_i32_1139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1138 : BitVec 32 := 1#32
  let v1116 : BitVec 32 := Scalar.muli v11 c1_i32_1138
  let v1117 : BitVec 32 := Scalar.addi c0_i32_1139 v1116
  v1117.toNat
def k0_dev31 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1152 : BitVec 32 := 1#32
  let v1131 : BitVec 32 := Scalar.muli v11 c1_i32_1152
  let v1132 : BitVec 32 := Scalar.addi c0_i32_1153 v1131
  v1132.toNat
def k0_off25 (d0 : Dev nD) (c0_i32_1159 : BitVec 32) : Fin 2 → Nat :=
  let c0_i32_1157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_1156 : BitVec 32 := 4#32
  let v1139 : BitVec 32 := Scalar.muli v7 c4_i32_1156
  let v1140 : BitVec 32 := Scalar.addi c0_i32_1157 v1139
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_1158 : BitVec 32 := 1#32
  let v1141 : BitVec 32 := Scalar.muli v8 c1_i32_1158
  let v1142 : BitVec 32 := Scalar.addi v1140 v1141
  let v1143 : BitVec 32 := Scalar.addi v1142 c0_i32_1159
  let c128_i32_1161 : BitVec 32 := 128#32
  let v1145 : BitVec 32 := Scalar.muli v1143 c128_i32_1161
  let c768_i32_1168 : BitVec 32 := 768#32
  ![v1145.toNat, 768]
def k0_dev32 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1166 : BitVec 32 := 1#32
  let v1146 : BitVec 32 := Scalar.muli v9 c1_i32_1166
  let v1147 : BitVec 32 := Scalar.addi c0_i32_1167 v1146
  v1147.toNat
def k0_dev33 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1180 : BitVec 32 := 1#32
  let v1161 : BitVec 32 := Scalar.muli v9 c1_i32_1180
  let v1162 : BitVec 32 := Scalar.addi c0_i32_1181 v1161
  v1162.toNat
def k0_off26 (d0 : Dev nD) (c0_i32_1276 : BitVec 32) (c0_i32_1277 : BitVec 32) : Fin 2 → Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_1274 : BitVec 32 := 1#32
  let v1229 : BitVec 32 := Scalar.muli v8 c1_i32_1274
  let v1230 : BitVec 32 := Scalar.addi c0_i32_1275 v1229
  let v1231 : BitVec 32 := Scalar.addi v1230 c0_i32_1276
  let v1232 : BitVec 32 := Scalar.addi v1231 c0_i32_1277
  let c128_i32_1279 : BitVec 32 := 128#32
  let v1234 : BitVec 32 := Scalar.muli v1232 c128_i32_1279
  let c0_i32_1286 : BitVec 32 := 0#32
  ![v1234.toNat, 0]
def k0_dev34 (d0 : Dev nD) : Nat :=
  let c0_i32_1285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1284 : BitVec 32 := 1#32
  let v1235 : BitVec 32 := Scalar.muli v9 c1_i32_1284
  let v1236 : BitVec 32 := Scalar.addi c0_i32_1285 v1235
  v1236.toNat
def k0_dev35 (d0 : Dev nD) : Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1298 : BitVec 32 := 1#32
  let v1249 : BitVec 32 := Scalar.muli v9 c1_i32_1298
  let v1250 : BitVec 32 := Scalar.addi c0_i32_1299 v1249
  v1250.toNat
def k0_dev36 (d0 : Dev nD) : Nat :=
  let c0_i32_1313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1312 : BitVec 32 := 1#32
  let v1263 : BitVec 32 := Scalar.muli v9 c1_i32_1312
  let v1264 : BitVec 32 := Scalar.addi c0_i32_1313 v1263
  v1264.toNat
def k0_dev37 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1326 : BitVec 32 := 1#32
  let v1277 : BitVec 32 := Scalar.muli v9 c1_i32_1326
  let v1278 : BitVec 32 := Scalar.addi c0_i32_1327 v1277
  v1278.toNat
def k0_off27 (d0 : Dev nD) (c0_i32_1332 : BitVec 32) (c0_i32_1333 : BitVec 32) : Fin 2 → Nat :=
  let c0_i32_1331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_1330 : BitVec 32 := 2#32
  let v1285 : BitVec 32 := Scalar.muli v5 c2_i32_1330
  let v1286 : BitVec 32 := Scalar.addi c0_i32_1331 v1285
  let v1287 : BitVec 32 := Scalar.addi v1286 c0_i32_1332
  let v1288 : BitVec 32 := Scalar.addi v1287 c0_i32_1333
  let c128_i32_1335 : BitVec 32 := 128#32
  let v1290 : BitVec 32 := Scalar.muli v1288 c128_i32_1335
  let c384_i32_1342 : BitVec 32 := 384#32
  ![v1290.toNat, 384]
def k0_dev38 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1340 : BitVec 32 := 1#32
  let v1291 : BitVec 32 := Scalar.muli v10 c1_i32_1340
  let v1292 : BitVec 32 := Scalar.addi c0_i32_1341 v1291
  v1292.toNat
def k0_dev39 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1354 : BitVec 32 := 1#32
  let v1305 : BitVec 32 := Scalar.muli v10 c1_i32_1354
  let v1306 : BitVec 32 := Scalar.addi c0_i32_1355 v1305
  v1306.toNat
def k0_dev40 (d0 : Dev nD) : Nat :=
  let c0_i32_1369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1368 : BitVec 32 := 1#32
  let v1319 : BitVec 32 := Scalar.muli v10 c1_i32_1368
  let v1320 : BitVec 32 := Scalar.addi c0_i32_1369 v1319
  v1320.toNat
def k0_dev41 (d0 : Dev nD) : Nat :=
  let c0_i32_1383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1382 : BitVec 32 := 1#32
  let v1333 : BitVec 32 := Scalar.muli v10 c1_i32_1382
  let v1334 : BitVec 32 := Scalar.addi c0_i32_1383 v1333
  v1334.toNat
def k0_off28 (d0 : Dev nD) (c0_i32_1388 : BitVec 32) (c0_i32_1389 : BitVec 32) : Fin 2 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c4_i32_1386 : BitVec 32 := 4#32
  let v1341 : BitVec 32 := Scalar.muli v7 c4_i32_1386
  let v1342 : BitVec 32 := Scalar.addi c0_i32_1387 v1341
  let v1343 : BitVec 32 := Scalar.addi v1342 c0_i32_1388
  let v1344 : BitVec 32 := Scalar.addi v1343 c0_i32_1389
  let c128_i32_1391 : BitVec 32 := 128#32
  let v1346 : BitVec 32 := Scalar.muli v1344 c128_i32_1391
  let c768_i32_1398 : BitVec 32 := 768#32
  ![v1346.toNat, 768]
def k0_dev42 (d0 : Dev nD) : Nat :=
  let c0_i32_1397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1396 : BitVec 32 := 1#32
  let v1347 : BitVec 32 := Scalar.muli v11 c1_i32_1396
  let v1348 : BitVec 32 := Scalar.addi c0_i32_1397 v1347
  v1348.toNat
def k0_dev43 (d0 : Dev nD) : Nat :=
  let c0_i32_1411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1410 : BitVec 32 := 1#32
  let v1361 : BitVec 32 := Scalar.muli v11 c1_i32_1410
  let v1362 : BitVec 32 := Scalar.addi c0_i32_1411 v1361
  v1362.toNat
def k0_dev44 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1424 : BitVec 32 := 1#32
  let v1375 : BitVec 32 := Scalar.muli v11 c1_i32_1424
  let v1376 : BitVec 32 := Scalar.addi c0_i32_1425 v1375
  v1376.toNat
def k0_dev45 (d0 : Dev nD) : Nat :=
  let c0_i32_1439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1438 : BitVec 32 := 1#32
  let v1389 : BitVec 32 := Scalar.muli v11 c1_i32_1438
  let v1390 : BitVec 32 := Scalar.addi c0_i32_1439 v1389
  v1390.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S1024 : Shape := ⟨1, ![1024]⟩
abbrev S_ : Shape := ⟨0, ![]⟩
abbrev S1024x3 : Shape := ⟨2, ![1024, 3]⟩
abbrev S1024x1x512x1024 : Shape := ⟨4, ![1024, 1, 512, 1024]⟩
abbrev S1024x512x1024 : Shape := ⟨3, ![1024, 512, 1024]⟩
abbrev S1024x1024 : Shape := ⟨2, ![1024, 1024]⟩

abbrev nBuf : Space → Nat
  | .hbm => 55
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S32x512x1024, .f32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1024x1, .i32⟩
  | .hbm, ⟨37, _⟩ => ⟨S1024x1, .i32⟩
  | .hbm, ⟨38, _⟩ => ⟨S1024x1, .i32⟩
  | .hbm, ⟨39, _⟩ => ⟨S1024x3, .i32⟩
  | .hbm, ⟨40, _⟩ => ⟨S1024x1x512x1024, .f32⟩
  | .hbm, ⟨41, _⟩ => ⟨S1024x512x1024, .f32⟩
  | .hbm, ⟨42, _⟩ => ⟨S1024x1024, .f32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S1024, .i1⟩
  | .hbm, ⟨50, _⟩ => ⟨S1024x1, .i1⟩
  | .hbm, ⟨51, _⟩ => ⟨S_, .f32⟩
  | .hbm, ⟨52, _⟩ => ⟨S1024x1024, .f32⟩
  | .hbm, ⟨53, _⟩ => ⟨S1024x1024, .i1⟩
  | .hbm, ⟨54, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_c_4 : Ref sig .tc := ⟨.hbm, 21, rfl⟩
abbrev main_v7 : Ref sig .tc := ⟨.hbm, 22, rfl⟩
abbrev main_c_5 : Ref sig .tc := ⟨.hbm, 23, rfl⟩
abbrev main_c_6 : Ref sig .tc := ⟨.hbm, 24, rfl⟩
abbrev main_v8 : Ref sig .tc := ⟨.hbm, 25, rfl⟩
abbrev main_c_7 : Ref sig .tc := ⟨.hbm, 26, rfl⟩
abbrev main_v9 : Ref sig .tc := ⟨.hbm, 27, rfl⟩
abbrev main_c_8 : Ref sig .tc := ⟨.hbm, 28, rfl⟩
abbrev main_c_9 : Ref sig .tc := ⟨.hbm, 29, rfl⟩
abbrev main_v10 : Ref sig .tc := ⟨.hbm, 30, rfl⟩
abbrev main_c_10 : Ref sig .tc := ⟨.hbm, 31, rfl⟩
abbrev main_c_11 : Ref sig .tc := ⟨.hbm, 32, rfl⟩
abbrev main_v11 : Ref sig .tc := ⟨.hbm, 33, rfl⟩
abbrev main_c_12 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_13 : Ref sig .tc := ⟨.hbm, 43, rfl⟩
abbrev main_v20 : Ref sig .tc := ⟨.hbm, 44, rfl⟩
abbrev main_v21 : Ref sig .tc := ⟨.hbm, 45, rfl⟩
abbrev main_c_14 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_call1_v0 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Proof.Mesh.lean ====
/-
The mesh as a three-dimensional cube, and where the kernel's copies go on it.

Every device owns one chunk of 128 rows of the result.  Numbering the chunks by three bits, the device `c` owns
`chunkOf c`, and its partner along axis `β` (`peer c β`) owns the chunk whose number differs in bit `β` alone.  The columns are cut
into three parts; part `π` goes through the axes in the order `π, π + 1, π + 2` (mod 3), so that the parts use different
links at any one time.

A part's copies are numbered `t = 0 … 6`: four in the first step of the reduction, two in the second, one in the third.
In the reduction copy `t` sends chunk `far c π t` and the device keeps (and adds to) chunk `near c π t`; in the gathering
phase, which runs the steps backwards, copy `t` sends chunk `near c π t` and chunk `far c π t` arrives.

The program computes every offset and every partner by word arithmetic on its device number; the tables below collect those
words and the theorems after them say what they come to.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Hypercube

open Cert.KernelIdeal Cert.KernelIdeal.Gen
open Idealize.ShloMosaic

/-! ## The cube -/

/-- First column of a column part, and its number of columns. -/
def col : Fin 3 → ℕ := ![0, 384, 768]
def wid : Fin 3 → ℕ := ![384, 384, 256]

/-- The chunk a device owns (the device's number with its two low bits in Gray code). -/
def chunkOf (c : Dev nD) : Fin 8 := ![0, 1, 3, 2, 4, 5, 7, 6] c
/-- The device that owns a chunk. -/
def owner (x : Fin 8) : Dev nD := ![0, 1, 3, 2, 4, 5, 7, 6] x
/-- The partner along an axis. -/
def peer (c : Dev nD) (β : Fin 3) : Dev nD :=
  (![![1, 0, 3, 2, 5, 4, 7, 6], ![3, 2, 1, 0, 7, 6, 5, 4], ![4, 5, 6, 7, 0, 1, 2, 3]] : Fin 3 → Fin 8 → Fin 8) β c

/-- The step of the reduction that copy `t` belongs to. -/
def stepOf : Fin 7 → ℕ := ![0, 0, 0, 0, 1, 1, 2]
/-- The axis along which part `π` moves in step `k`. -/
def axisAt (π : Fin 3) (k : ℕ) : Fin 3 := ⟨(π.val + k) % 3, Nat.mod_lt _ (by decide)⟩
/-- The axis of copy `t` of part `π`. -/
def axis (π : Fin 3) (t : Fin 7) : Fin 3 := axisAt π (stepOf t)

/-- Bit `β` of a chunk number. -/
def bit (x : Fin 8) (β : Fin 3) : ℕ := x.val / 2 ^ β.val % 2
/-- The chunk with the given bits along part `π`'s first, second and third axis. -/
def mkChunk (π : Fin 3) (b0 b1 b2 : ℕ) : Fin 8 :=
  Fin.ofNat 8 (b0 * 2 ^ (axisAt π 0).val + b1 * 2 ^ (axisAt π 1).val + b2 * 2 ^ (axisAt π 2).val)

/-- Along part `π`'s axes: the bits of the chunk of copy `t`, given the device's own bits `x` and the bit `y` along
    the copy's axis. -/
def chunkAt (π : Fin 3) (t : Fin 7) (x : Fin 8) (y : ℕ → ℕ) : Fin 8 :=
  if t.val < 4 then mkChunk π (y (bit x (axisAt π 0))) (t.val % 2) (t.val / 2)
  else if t.val < 6 then mkChunk π (bit x (axisAt π 0)) (y (bit x (axisAt π 1))) (t.val % 2)
  else mkChunk π (bit x (axisAt π 0)) (bit x (axisAt π 1)) (y (bit x (axisAt π 2)))

/-- The chunk on the device's own side of the copy's axis: kept in the reduction, sent in the gathering phase. -/
def near (c : Dev nD) (π : Fin 3) (t : Fin 7) : Fin 8 := chunkAt π t (chunkOf c) id
/-- The chunk on the other side: sent in the reduction, received in the gathering phase. -/
def far (c : Dev nD) (π : Fin 3) (t : Fin 7) : Fin 8 := chunkAt π t (chunkOf c) (1 - ·)

theorem peer_peer : ∀ (c : Dev nD) (β : Fin 3), peer (peer c β) β = c := by decide
theorem owner_chunkOf : ∀ c : Dev nD, owner (chunkOf c) = c := by decide
theorem chunkOf_owner : ∀ x : Fin 8, chunkOf (owner x) = x := by decide
/-- What a device sends away is what its partner keeps, and the other way round. -/
theorem far_peer : ∀ (c : Dev nD) (π : Fin 3) (t : Fin 7), far (peer c (axis π t)) π t = near c π t := by decide +kernel
theorem near_peer : ∀ (c : Dev nD) (π : Fin 3) (t : Fin 7), near (peer c (axis π t)) π t = far c π t := by decide +kernel
/-- The partner as a permutation of the devices. -/
def peerEquiv (β : Fin 3) : Dev nD ≃ Dev nD := ⟨fun c => peer c β, fun c => peer c β, fun c => peer_peer c β, fun c => peer_peer c β⟩

/-- The copies of one step, of all parts, in the program's order. -/
def stepCopies (k : ℕ) : List (Fin 3 × Fin 7) :=
  (List.finRange 3).flatMap fun π => ((List.finRange 7).filter fun t => stepOf t = k).map fun t => (π, t)

/-! ## The program's tables -/

/-- A table over the copies of one part, given step by step. -/
@[reducible] def byStep {α : Type} (t : Fin 7) (a : ℕ → ℕ → α) (b : ℕ → α) (z : α) : α :=
  match t with
  | 0 => a 0 0 | 1 => a 1 0 | 2 => a 0 1 | 3 => a 1 1 | 4 => b 0 | 5 => b 1 | 6 => z

/-- A table over the copies of all parts. -/
@[reducible] def byPart {α : Type} (π : Fin 3) (a b z : α) : α := match π with | 0 => a | 1 => b | 2 => z

/-- Where the chunk sent by copy `t` of the reduction starts, as the program computes it. -/
@[reducible] def rsSendOff (d : Dev nD) (π : Fin 3) (t : Fin 7) : Fin 2 → ℕ :=
  byPart π
    (byStep t (fun p q => k0_off1 d (BitVec.ofNat 32 (2 * p)) (BitVec.ofNat 32 (4 * q))) (fun p => k0_off7 d (BitVec.ofNat 32 (4 * p))) (k0_off13 d))
    (byStep t (fun p q => k0_off2 d (BitVec.ofNat 32 (4 * p)) (BitVec.ofNat 32 q)) (fun p => k0_off8 d (BitVec.ofNat 32 p)) (k0_off14 d))
    (byStep t (fun p q => k0_off3 d (BitVec.ofNat 32 p) (BitVec.ofNat 32 (2 * q))) (fun p => k0_off9 d (BitVec.ofNat 32 (2 * p))) (k0_off15 d))

/-- Where the chunk that the reduction's copy `t` is added to starts, as the program computes it. -/
@[reducible] def rsKeepOff (d : Dev nD) (π : Fin 3) (t : Fin 7) : Fin 2 → ℕ :=
  byPart π
    (byStep t (fun p q => k0_off4 d (BitVec.ofNat 32 (2 * p)) (BitVec.ofNat 32 (4 * q))) (fun p => k0_off10 d (BitVec.ofNat 32 (4 * p))) (k0_off16 d))
    (byStep t (fun p q => k0_off5 d (BitVec.ofNat 32 (4 * p)) (BitVec.ofNat 32 q)) (fun p => k0_off11 d (BitVec.ofNat 32 p)) (k0_off17 d))
    (byStep t (fun p q => k0_off6 d (BitVec.ofNat 32 p) (BitVec.ofNat 32 (2 * q))) (fun p => k0_off12 d (BitVec.ofNat 32 (2 * p))) (k0_off18 d))

/-- Where the chunk sent by copy `t` of the gathering phase starts, as the program computes it. -/
@[reducible] def agSendOff (d : Dev nD) (π : Fin 3) (t : Fin 7) : Fin 2 → ℕ :=
  byPart π
    (byStep t (fun p q => k0_off26 d (BitVec.ofNat 32 (2 * p)) (BitVec.ofNat 32 (4 * q))) (fun p => k0_off23 d (BitVec.ofNat 32 (4 * p))) (k0_off20 d))
    (byStep t (fun p q => k0_off27 d (BitVec.ofNat 32 (4 * p)) (BitVec.ofNat 32 q)) (fun p => k0_off24 d (BitVec.ofNat 32 p)) (k0_off21 d))
    (byStep t (fun p q => k0_off28 d (BitVec.ofNat 32 p) (BitVec.ofNat 32 (2 * q))) (fun p => k0_off25 d (BitVec.ofNat 32 (2 * p))) (k0_off22 d))

theorem rsSendOff_eq : ∀ (d : Dev nD) (π : Fin 3) (t : Fin 7), rsSendOff d π t = ![128 * (far d π t).val, col π] := by decide +kernel
theorem rsKeepOff_eq : ∀ (d : Dev nD) (π : Fin 3) (t : Fin 7), rsKeepOff d π t = ![128 * (near d π t).val, col π] := by decide +kernel
theorem agSendOff_eq : ∀ (d : Dev nD) (π : Fin 3) (t : Fin 7), agSendOff d π t = ![128 * (near d π t).val, col π] := by decide +kernel
theorem ownOff_eq : ∀ d : Dev nD, k0_off19 d = ![128 * (chunkOf d).val, 0] := by decide +kernel

/-- The device that copy `t` of the reduction addresses, as the program computes it. -/
@[reducible] def rsDev (d : Dev nD) (π : Fin 3) (t : Fin 7) : Dev nD :=
  byPart π
    (match t with
      | 0 => ⟨k0_dev4 d, k0_dev4_lt d⟩ | 1 => ⟨k0_dev5 d, k0_dev5_lt d⟩ | 2 => ⟨k0_dev6 d, k0_dev6_lt d⟩ | 3 => ⟨k0_dev7 d, k0_dev7_lt d⟩
      | 4 => ⟨k0_dev16 d, k0_dev16_lt d⟩ | 5 => ⟨k0_dev17 d, k0_dev17_lt d⟩ | 6 => ⟨k0_dev22 d, k0_dev22_lt d⟩)
    (match t with
      | 0 => ⟨k0_dev8 d, k0_dev8_lt d⟩ | 1 => ⟨k0_dev9 d, k0_dev9_lt d⟩ | 2 => ⟨k0_dev10 d, k0_dev10_lt d⟩ | 3 => ⟨k0_dev11 d, k0_dev11_lt d⟩
      | 4 => ⟨k0_dev18 d, k0_dev18_lt d⟩ | 5 => ⟨k0_dev19 d, k0_dev19_lt d⟩ | 6 => ⟨k0_dev23 d, k0_dev23_lt d⟩)
    (match t with
      | 0 => ⟨k0_dev12 d, k0_dev12_lt d⟩ | 1 => ⟨k0_dev13 d, k0_dev13_lt d⟩ | 2 => ⟨k0_dev14 d, k0_dev14_lt d⟩ | 3 => ⟨k0_dev15 d, k0_dev15_lt d⟩
      | 4 => ⟨k0_dev20 d, k0_dev20_lt d⟩ | 5 => ⟨k0_dev21 d, k0_dev21_lt d⟩ | 6 => ⟨k0_dev24 d, k0_dev24_lt d⟩)

/-- The device that copy `t` of the gathering phase addresses, as the program computes it. -/
@[reducible] def agDev (d : Dev nD) (π : Fin 3) (t : Fin 7) : Dev nD :=
  byPart π
    (match t with
      | 0 => ⟨k0_dev34 d, k0_dev34_lt d⟩ | 1 => ⟨k0_dev35 d, k0_dev35_lt d⟩ | 2 => ⟨k0_dev36 d, k0_dev36_lt d⟩ | 3 => ⟨k0_dev37 d, k0_dev37_lt d⟩
      | 4 => ⟨k0_dev28 d, k0_dev28_lt d⟩ | 5 => ⟨k0_dev29 d, k0_dev29_lt d⟩ | 6 => ⟨k0_dev25 d, k0_dev25_lt d⟩)
    (match t with
      | 0 => ⟨k0_dev38 d, k0_dev38_lt d⟩ | 1 => ⟨k0_dev39 d, k0_dev39_lt d⟩ | 2 => ⟨k0_dev40 d, k0_dev40_lt d⟩ | 3 => ⟨k0_dev41 d, k0_dev41_lt d⟩
      | 4 => ⟨k0_dev30 d, k0_dev30_lt d⟩ | 5 => ⟨k0_dev31 d, k0_dev31_lt d⟩ | 6 => ⟨k0_dev26 d, k0_dev26_lt d⟩)
    (match t with
      | 0 => ⟨k0_dev42 d, k0_dev42_lt d⟩ | 1 => ⟨k0_dev43 d, k0_dev43_lt d⟩ | 2 => ⟨k0_dev44 d, k0_dev44_lt d⟩ | 3 => ⟨k0_dev45 d, k0_dev45_lt d⟩
      | 4 => ⟨k0_dev32 d, k0_dev32_lt d⟩ | 5 => ⟨k0_dev33 d, k0_dev33_lt d⟩ | 6 => ⟨k0_dev27 d, k0_dev27_lt d⟩)

theorem rsDev_eq : ∀ (d : Dev nD) (π : Fin 3) (t : Fin 7), rsDev d π t = peer d (axis π t) := by decide +kernel
theorem agDev_eq : ∀ (d : Dev nD) (π : Fin 3) (t : Fin 7), agDev d π t = peer d (axis π t) := by decide +kernel

/-- The device that the opening signal along an axis goes to, as the program computes it. -/
@[reducible] def signalDev (d : Dev nD) (β : Fin 3) : Dev nD :=
  byPart β ⟨k0_dev1 d, k0_dev1_lt d⟩ ⟨k0_dev2 d, k0_dev2_lt d⟩ ⟨k0_dev3 d, k0_dev3_lt d⟩
theorem signalDev_eq : ∀ (d : Dev nD) (β : Fin 3), signalDev d β = peer d β := by decide +kernel

end Cert.Hypercube

end
-- ==== Proof.Walk.lean ====
/-
The kernel's body, restated as loops over its copies.

The printed body is one straight line of about two hundred and sixty memory operations.  Its copies differ only in the part `π` and the number
`t` of Mesh.lean, so the same line is a handful of loops: in each step of the reduction all sends, then per copy the two waits
and the addition; in each step of the gathering phase all sends, then the two waits per copy.
-/
module

public import proofs.«01_k».proof.Proof.Mesh

@[expose] public section

noncomputable section

namespace Cert.Hypercube

open Cert.KernelIdeal Cert.KernelIdeal.Gen
open Idealize.ShloMosaic Idealize.SL.Sem

variable {F : FTy → Type} [FloatOps F]

/-! ## Buffers, tiles and semaphores -/

abbrev xM : Memref sig .tc .vmem S1024x512 .f32 := Memref.whole cc0_stg0_0
abbrev idxM : Memref sig .tc .vmem S1024x1 .i32 := Memref.whole cc0_stg1_0
abbrev wM : Memref sig .tc .vmem S4x512x1024 .f32 := Memref.whole cc0_stg2_0
abbrev outM : Memref sig .tc .vmem S1024x1024 .f32 := Memref.whole cc0_stg3_0
abbrev accM : Memref sig .tc .vmem S1024x1024 .f32 := Memref.whole cc0_scratch0
abbrev rsbM : Memref sig .tc .vmem S7x128x1024 .f32 := Memref.whole cc0_scratch1

/-- The shape of one copy of part `π`: 128 rows of its columns; and the same with a leading axis of length one. -/
abbrev tileSh (π : Fin 3) : Shape := ⟨2, ![128, wid π]⟩
abbrev slotSh (π : Fin 3) : Shape := ⟨3, ![1, 128, wid π]⟩

theorem tileSh_pos : ∀ π, 0 < (tileSh π).numel := by decide
theorem slotSh_pos : ∀ π, 0 < (slotSh π).numel := by decide
theorem tile_inb : ∀ (x : Fin 8) (π : Fin 3), ∀ a, (![128 * x.val, col π] : Fin 2 → ℕ) a + (tileSh π).size a ≤ S1024x1024.size a := by decide
theorem slot_inb : ∀ (t : Fin 7) (π : Fin 3), ∀ a, (![t.val, 0, col π] : Fin 3 → ℕ) a + (slotSh π).size a ≤ S7x128x1024.size a := by decide
theorem slot_squeezes : ∀ π, (slotSh π).Squeezes (tileSh π) := by decide

theorem rsSend_inb (d : Dev nD) (π : Fin 3) (t : Fin 7) : ∀ a, rsSendOff d π t a + (tileSh π).size a ≤ S1024x1024.size a := by
  rw [rsSendOff_eq]; exact tile_inb _ π
theorem rsKeep_inb (d : Dev nD) (π : Fin 3) (t : Fin 7) : ∀ a, rsKeepOff d π t a + (tileSh π).size a ≤ S1024x1024.size a := by
  rw [rsKeepOff_eq]; exact tile_inb _ π
theorem agSend_inb (d : Dev nD) (π : Fin 3) (t : Fin 7) : ∀ a, agSendOff d π t a + (tileSh π).size a ≤ S1024x1024.size a := by
  rw [agSendOff_eq]; exact tile_inb _ π

/-- The tile of `m` at an offset; the landing slot of copy `t`. -/
@[reducible] def tileAt (m : Memref sig .tc .vmem S1024x1024 .f32) (π : Fin 3) (off : Fin 2 → ℕ) (h : ∀ a, off a + (tileSh π).size a ≤ S1024x1024.size a) :
    Memref sig .tc .vmem (tileSh π) .f32 := m.slice (Rect.unit (s := S1024x1024) off (tileSh π).size h) (fun _ => rfl)
@[reducible] def slotRect (π : Fin 3) (t : Fin 7) : Rect S7x128x1024 :=
  Rect.unit (s := S7x128x1024) ![t.val, 0, col π] (slotSh π).size (slot_inb t π)
@[reducible] def slotM (π : Fin 3) (t : Fin 7) : Memref sig .tc .vmem (tileSh π) .f32 :=
  (rsbM.slice (slotRect π t) (fun _ => rfl)).squeeze (tileSh π) (slot_squeezes π)

/-- The four arrays of semaphores: of the reduction and of the gathering phase, each for sends and for arrivals. -/
inductive Ph | rs | ag
  deriving DecidableEq
inductive End | send | recv
  deriving DecidableEq

/-- The place in its array of copy `t`'s semaphore: the gathering phase numbers its copies in its own order. -/
@[reducible] def place (ph : Ph) (t : Fin 7) : Fin 7 := match ph with
  | .rs => t
  | .ag => match t with | 0 => 3 | 1 => 4 | 2 => 5 | 3 => 6 | 4 => 1 | 5 => 2 | 6 => 0

theorem sem_inb : ∀ (π : Fin 3) (s : Fin 7), ∀ a, (![π.val, s.val] : Fin 2 → ℕ) a + S1x1.size a ≤ S3x7.size a := by decide

@[reducible] def semArr (ph : Ph) (e : End) : DmaSems sig S3x7 := match ph, e with
  | .rs, .send => cc0_scratch2 | .rs, .recv => cc0_scratch3 | .ag, .send => cc0_scratch4 | .ag, .recv => cc0_scratch5
@[reducible] def copySem (ph : Ph) (e : End) (π : Fin 3) (t : Fin 7) : DmaSem sig :=
  (((semArr ph e).slice (Rect.unit (s := S3x7) ![π.val, (place ph t).val] S1x1.size (sem_inb π (place ph t)))).squeeze S_ squeezes_S1x1_S_).sem
abbrev barS : Sem sig := (SemArray.scalar (sig.barrier 0 rfl) : Sems sig S_).sem

/-! ## The operations -/

/-- A piece of the kernel's body with a result of type `α`. -/
abbrev Body (F : FTy → Type) (α : Type) : Type 1 := Prog (TpuEff nD τ sig (Elt F) Λ₀ .tc) α

/-- Reduction: send chunk `far` to the partner's landing slot. -/
@[reducible] def rsSend (d : Dev nD) (π : Fin 3) (t : Fin 7) : Body F PUnit :=
  Prog.lift (.enqueueDma (tileAt accM π (rsSendOff d π t) (rsSend_inb d π t)) (.remote (Dev.tc (rsDev d π t)) (slotM π t) (.dma (copySem .rs .send π t)))
    (.dma (copySem .rs .recv π t)) (View.wordExact_bits rfl) (View.wordExact_bits rfl) ⟨⟨rfl, Or.inl rfl⟩, trivial⟩)
@[reducible] def rsWaitSend (d : Dev nD) (π : Fin 3) (t : Fin 7) : Body F PUnit :=
  Prog.lift (.waitDma2 (copySem .rs .send π t) (slotM π t) (tileAt accM π (rsSendOff d π t) (rsSend_inb d π t)) (View.wordExact_bits rfl) (View.wordExact_bits rfl))
@[reducible] def rsWaitRecv (d : Dev nD) (π : Fin 3) (t : Fin 7) : Body F PUnit :=
  Prog.lift (.waitDma2 (copySem .rs .recv π t) (tileAt accM π (rsSendOff d π t) (rsSend_inb d π t)) (slotM π t) (View.wordExact_bits rfl) (View.wordExact_bits rfl))

@[reducible] def keepRect (d : Dev nD) (π : Fin 3) (t : Fin 7) : Rect S1024x1024 :=
  Rect.unit (s := S1024x1024) (rsKeepOff d π t) (tileSh π).size (rsKeep_inb d π t)

theorem slot_casts : ∀ π, (slotSh π).ShapeCasts (tileSh π) := by decide
theorem tile_casts : ∀ π, (tileSh π).ShapeCasts (tileSh π) := by decide

/-- A kept tile plus a landed one. -/
@[reducible] def addTile (π : Fin 3) (v : Vec F (tileSh π) .f32) (w : Vec F (slotSh π) .f32) : FVec F (tileSh π) .f32 :=
  shapeCast (tileSh π) (addf v (shapeCast (tileSh π) w (slot_casts π))) (tile_casts π)

/-- Reduction: add the landed tile to the kept chunk. -/
@[reducible] def rsAdd (d : Dev nD) (π : Fin 3) (t : Fin 7) : Body F PUnit := do
  let v : Vec F (tileSh π) .f32 ← Prog.lift (.load accM (keepRect d π t).toLoadRect (View.loadsAt_vmem (tileSh_pos π)))
  let w : Vec F (slotSh π) .f32 ← Prog.lift (.load rsbM (slotRect π t).toLoadRect (View.loadsAt_vmem (slotSh_pos π)))
  let _u : Vec F (tileSh π) .f32 ← Prog.lift (.load accM (keepRect d π t).toLoadRect (View.loadsAt_vmem (tileSh_pos π)))
  Prog.lift (.store accM (keepRect d π t) (addTile π v w) Finset.univ (View.stores_vmem_bits_univ (tileSh_pos π) rfl) (.inl rfl))

/-- Gathering: send chunk `near` to the same place at the partner. -/
@[reducible] def agSend (d : Dev nD) (π : Fin 3) (t : Fin 7) : Body F PUnit :=
  Prog.lift (.enqueueDma (tileAt outM π (agSendOff d π t) (agSend_inb d π t)) (.remote (Dev.tc (agDev d π t)) (tileAt outM π (agSendOff d π t) (agSend_inb d π t)) (.dma (copySem .ag .send π t)))
    (.dma (copySem .ag .recv π t)) (View.wordExact_bits rfl) (View.wordExact_bits rfl) ⟨⟨rfl, Or.inl rfl⟩, trivial⟩)
@[reducible] def agWait (e : End) (d : Dev nD) (π : Fin 3) (t : Fin 7) : Body F PUnit :=
  Prog.lift (.waitDma2 (copySem .ag e π t) (tileAt outM π (agSendOff d π t) (agSend_inb d π t)) (tileAt outM π (agSendOff d π t) (agSend_inb d π t)) (View.wordExact_bits rfl) (View.wordExact_bits rfl))

/-- One operation after the other over a list of copies. -/
def each (f : Fin 3 → Fin 7 → Body F PUnit) : List (Fin 3 × Fin 7) → Body F PUnit → Body F PUnit
  | [], p => p
  | i :: l, p => f i.1 i.2 >>= fun _ => each f l p

@[reducible] def rsFinish (d : Dev nD) (π : Fin 3) (t : Fin 7) : Body F PUnit := do
  rsWaitSend d π t
  rsWaitRecv d π t
  rsAdd d π t
@[reducible] def agFinish (d : Dev nD) (π : Fin 3) (t : Fin 7) : Body F PUnit := do
  agWait .send d π t
  agWait .recv d π t

/-- The device number as the masked product reads it. -/
abbrev devWord (d : Dev nD) : BitVec 32 := Scalar.remsi (Scalar.divsi (Dev.word d) 1#32) 8#32

/-- The device's own contribution to the result: over its four experts, the rows routed to each times its matrix, summed. -/
@[reducible] def contribution (d : Dev nD) (i0 : Vec F S1024x1 .i32) (x0 : Vec F S1024x512 .f32) (w0 : Vec F S1x512x1024 .f32)
    (i1 : Vec F S1024x1 .i32) (x1 : Vec F S1024x512 .f32) (w1 : Vec F S1x512x1024 .f32) (i2 : Vec F S1024x1 .i32) (x2 : Vec F S1024x512 .f32)
    (w2 : Vec F S1x512x1024 .f32) (i3 : Vec F S1024x1 .i32) (x3 : Vec F S1024x512 .f32) (w3 : Vec F S1x512x1024 .f32) : FVec F S1024x1024 .f32 :=
  k0_pay5 (devWord d) (k0_pay2 (devWord d) (k0_pay1 d i0) x0 w0 i1 x1 w1) (k0_pay3 (devWord d) i2 x2) (k0_pay4 w2)
    (constant S1024x1024 .f32 0x00000000#32) i3 x3 w3

@[reducible] def loadIdx : Body F (Vec F S1024x1 .i32) :=
  Prog.lift (.load idxM (Rect.unit (s := S1024x1) ![0, 0] S1024x1.size inb_S1024x1_S1024x1_0_0).toLoadRect (View.loadsAt_vmem h_S1024x1))
@[reducible] def loadX : Body F (Vec F S1024x512 .f32) :=
  Prog.lift (.load xM (Rect.unit (s := S1024x512) ![0, 0] S1024x512.size inb_S1024x512_S1024x512_0_0).toLoadRect (View.loadsAt_vmem h_S1024x512))
theorem slab_inb : ∀ (e : Fin 4) a, (![e.val, 0, 0] : Fin 3 → ℕ) a + S1x512x1024.size a ≤ S4x512x1024.size a := by decide
@[reducible] def loadW (e : Fin 4) : Body F (Vec F S1x512x1024 .f32) :=
  Prog.lift (.load wM (Rect.unit (s := S4x512x1024) ![e.val, 0, 0] S1x512x1024.size (slab_inb e)).toLoadRect (View.loadsAt_vmem h_S1x512x1024))

/-- The opening handshake: a signal to each partner, then the wait for three. -/
@[reducible] def handshake (d : Dev nD) : Body F PUnit := do
  semSignalWord (signalDev d 0) barS 1#32
  semSignalWord (signalDev d 1) barS 1#32
  semSignalWord (signalDev d 2) barS 1#32
  semWaitWord barS 3#32

/-- The device's contribution computed into the accumulator. -/
@[reducible] def contribute (d : Dev nD) : Body F PUnit := do
  let i0 ← loadIdx
  let x0 ← loadX
  let w0 ← loadW 0
  let i1 ← loadIdx
  let x1 ← loadX
  let w1 ← loadW 1
  let i2 ← loadIdx
  let x2 ← loadX
  let w2 ← loadW 2
  let i3 ← loadIdx
  let x3 ← loadX
  let w3 ← loadW 3
  let _a : Vec F S1024x1024 .f32 ← Prog.lift (.load accM (Rect.unit (s := S1024x1024) ![0, 0] S1024x1024.size inb_S1024x1024_S1024x1024_0_0).toLoadRect (View.loadsAt_vmem h_S1024x1024))
  Prog.lift (.store accM (Rect.unit (s := S1024x1024) ![0, 0] S1024x1024.size inb_S1024x1024_S1024x1024_0_0) (contribution d i0 x0 w0 i1 x1 w1 i2 x2 w2 i3 x3 w3)
    Finset.univ (View.stores_vmem_bits_univ h_S1024x1024 rfl) (.inl rfl))

@[reducible] def ownRect (d : Dev nD) : Rect S1024x1024 := Rect.unit (s := S1024x1024) (k0_off19 d) S128x1024.size (k0_off19_inb d)

/-- The finished chunk moved from the accumulator to the result. -/
@[reducible] def publish (d : Dev nD) : Body F PUnit := do
  let v : Vec F S128x1024 .f32 ← Prog.lift (.load accM (ownRect d).toLoadRect (View.loadsAt_vmem h_S128x1024))
  let _u : Vec F S128x1024 .f32 ← Prog.lift (.load outM (ownRect d).toLoadRect (View.loadsAt_vmem h_S128x1024))
  Prog.lift (.store outM (ownRect d) v Finset.univ (View.stores_vmem_bits_univ h_S128x1024 rfl) (.inl rfl))

/-- One step of the reduction, before `p`. -/
def rsStep (d : Dev nD) (l : List (Fin 3 × Fin 7)) (p : Body F PUnit) : Body F PUnit :=
  each (rsSend d) l (each (rsFinish d) l p)
/-- One step of the gathering phase, before `p`. -/
def agStep (d : Dev nD) (l : List (Fin 3 × Fin 7)) (p : Body F PUnit) : Body F PUnit :=
  each (agSend d) l (each (agFinish d) l p)

/-- The whole body. -/
def walk (d : Dev nD) : Body F PUnit := do
  handshake d
  contribute d
  rsStep d (stepCopies 0) (rsStep d (stepCopies 1) (rsStep d (stepCopies 2) (do
    publish d
    agStep d (stepCopies 2) (agStep d (stepCopies 1) (agStep d (stepCopies 0) (pure ⟨⟩))))))

set_option maxRecDepth 65536 in
/-- The copies of each step, listed. -/
theorem stepCopies_eq : stepCopies 0 = [(0,0),(0,1),(0,2),(0,3),(1,0),(1,1),(1,2),(1,3),(2,0),(2,1),(2,2),(2,3)] ∧ stepCopies 1 = [(0,4),(0,5),(1,4),(1,5),(2,4),(2,5)] ∧ stepCopies 2 = [(0,6),(1,6),(2,6)] := by decide
set_option maxRecDepth 65536 in
/-- The kernel's body, run on the buffers of the launch, is the walk on the device it finds itself on. -/
theorem body_eq : cc0_body (F := F) xM (Memref.isWhole_whole _) idxM (Memref.isWhole_whole _) wM (Memref.isWhole_whole _) outM (Memref.isWhole_whole _) accM (Memref.isWhole_whole _) rsbM (Memref.isWhole_whole _)
    cc0_scratch2 cc0_scratch3 cc0_scratch4 cc0_scratch5 = Prog.lift .deviceId >>= fun d => walk d := by
  rw [cc0_body_eq_skeleton]
  unfold cc0_body_skel walk rsStep agStep
  rw [stepCopies_eq.1, stepCopies_eq.2.1, stepCopies_eq.2.2]
  rfl
end Cert.Hypercube

end
-- ==== Proof.Tiles.lean ====
/-
The buffers in tiles.

A tile of the accumulator or of the result is one chunk of 128 rows within one column part; a slot of the landing buffer is one of its
seven planes within one column part.  Each buffer is the disjoint union of its tiles or slots, and the tiles group along the
steps of the walk: what a device keeps in one step is what it sends and keeps in the next.
-/
module

public import proofs.«01_k».proof.Proof.Walk
public import Idealize.ShloMosaic.Lib.Pipeline.Launch
public import Idealize.ShloMosaic.Lib.Pipeline.Kit
public import Idealize.ShloMosaic.Lib.Pipeline.BigSepL
public import Idealize.ShloMosaic.Lib.Pipeline.TalkSched
public import Idealize.ShloMosaic.Lib.Tactic

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Sets of elements -/

abbrev Copy : Type := Fin 3 × Fin 7

/-- The column part of a column. -/
def partOf (y : ℕ) : Fin 3 := if y < 384 then 0 else if y < 768 then 1 else 2
/-- The chunk of a row. -/
def chunkIn (x : ℕ) : Fin 8 := Fin.ofNat 8 (x / 128)

theorem partOf_eq (π : Fin 3) (y : ℕ) (hy : y < 1024) : partOf y = π ↔ col π ≤ y ∧ y < col π + wid π := by
  unfold partOf
  fin_cases π <;> (split_ifs <;> simp [col, wid] <;> omega)

theorem chunkIn_eq (x : Fin 8) (r : ℕ) (hr : r < 1024) : chunkIn r = x ↔ 128 * x.val ≤ r ∧ r < 128 * x.val + 128 := by
  rw [chunkIn, Fin.ext_iff, Fin.val_ofNat, Nat.mod_eq_of_lt (by omega)]; omega

/-- The tile of a part and a chunk; the slot of a copy; a chunk's rows over all parts. -/
def tileSet (p : Fin 3 × Fin 8) : Finset S1024x1024.Idx :=
  (Rect.unit (s := S1024x1024) ![128 * p.2.val, col p.1] (tileSh p.1).size (tile_inb p.2 p.1)).set
def slotSet (i : Copy) : Finset S7x128x1024.Idx := (slotRect i.1 i.2).set

theorem rows_inb : ∀ (x : Fin 8) a, (![128 * x.val, 0] : Fin 2 → ℕ) a + S128x1024.size a ≤ S1024x1024.size a := by decide
def rowSet (x : Fin 8) : Finset S1024x1024.Idx := (Rect.unit (s := S1024x1024) ![128 * x.val, 0] S128x1024.size (rows_inb x)).set

theorem mem_tileSet (p : Fin 3 × Fin 8) (i : S1024x1024.Idx) : i ∈ tileSet p ↔ (partOf (i 1).val, chunkIn (i 0).val) = p := by
  obtain ⟨π, x⟩ := p
  have h0 : (i 0).val < 1024 := (i 0).isLt
  have h1 : (i 1).val < 1024 := (i 1).isLt
  rw [tileSet, Rect.mem_set_unit, Fin.forall_fin_two, Prod.mk.injEq, partOf_eq π _ h1, chunkIn_eq x _ h0]
  exact and_comm

theorem mem_slotSet (p : Copy) (i : S7x128x1024.Idx) : i ∈ slotSet p ↔ (partOf (i 2).val, (⟨(i 0).val, (i 0).isLt⟩ : Fin 7)) = p := by
  obtain ⟨π, t⟩ := p
  have h1 : (i 1).val < 128 := (i 1).isLt
  have h2 : (i 2).val < 1024 := (i 2).isLt
  rw [slotSet, Rect.mem_set_unit, Prod.mk.injEq, partOf_eq π _ h2, Fin.ext_iff]
  constructor
  · intro h
    have a0 := h 0; have a2 := h 2
    simp at a0 a2
    exact ⟨a2, by show (i 0).val = t.val; omega⟩
  · rintro ⟨ha, hb⟩ a
    change (i 0).val = t.val at hb
    fin_cases a
    · simp; omega
    · simp; omega
    · simpa using ha

theorem mem_rowSet (x : Fin 8) (i : S1024x1024.Idx) : i ∈ rowSet x ↔ chunkIn (i 0).val = x := by
  have h0 : (i 0).val < 1024 := (i 0).isLt
  have h1 : (i 1).val < 1024 := (i 1).isLt
  rw [rowSet, Rect.mem_set_unit, Fin.forall_fin_two, chunkIn_eq x _ h0]
  constructor
  · exact fun h => h.1
  · exact fun h => ⟨h, by simp; omega⟩

theorem tile_disjoint : (↑(Finset.univ : Finset (Fin 3 × Fin 8)) : Set _).PairwiseDisjoint tileSet := fun p _ q _ h =>
  Finset.disjoint_left.mpr fun i hp hq => h (((mem_tileSet p i).mp hp).symm.trans ((mem_tileSet q i).mp hq))
theorem slot_disjoint : (↑(Finset.univ : Finset Copy) : Set _).PairwiseDisjoint slotSet := fun p _ q _ h =>
  Finset.disjoint_left.mpr fun i hp hq => h (((mem_slotSet p i).mp hp).symm.trans ((mem_slotSet q i).mp hq))
theorem tile_cover : (Finset.univ : Finset (Fin 3 × Fin 8)).biUnion tileSet = Finset.univ :=
  Finset.eq_univ_of_forall fun i => Finset.mem_biUnion.mpr ⟨_, Finset.mem_univ _, (mem_tileSet _ i).mpr rfl⟩
theorem slot_cover : (Finset.univ : Finset Copy).biUnion slotSet = Finset.univ :=
  Finset.eq_univ_of_forall fun i => Finset.mem_biUnion.mpr ⟨_, Finset.mem_univ _, (mem_slotSet _ i).mpr rfl⟩
/-- A chunk's rows are its tiles in the three parts. -/
theorem row_cover (x : Fin 8) : (Finset.univ : Finset (Fin 3)).biUnion (fun π => tileSet (π, x)) = rowSet x := by
  ext i
  rw [mem_rowSet, Finset.mem_biUnion]
  constructor
  · rintro ⟨π, -, h⟩
    exact (Prod.mk.inj ((mem_tileSet _ i).mp h)).2
  · rintro h
    exact ⟨partOf (i 1).val, Finset.mem_univ _, (mem_tileSet _ i).mpr (by rw [h])⟩
theorem row_disjoint (x : Fin 8) : (↑(Finset.univ : Finset (Fin 3)) : Set _).PairwiseDisjoint (fun π => tileSet (π, x)) := fun p _ q _ h =>
  Finset.disjoint_left.mpr fun i hp hq => h (Prod.mk.inj (((mem_tileSet _ i).mp hp).symm.trans ((mem_tileSet _ i).mp hq))).1

/-! ## The copies and their tiles -/

/-- All copies; the ones along one axis. -/
def copies : List Copy := stepCopies 0 ++ (stepCopies 1 ++ stepCopies 2)
def axisCopies (β : Fin 3) : List Copy := copies.filter fun i => axis i.1 i.2 = β

/-- The tile a copy keeps or adds to, and the one it sends (in the reduction). -/
def nearT (c : Dev nD) (i : Copy) : Fin 3 × Fin 8 := (i.1, near c i.1 i.2)
def farT (c : Dev nD) (i : Copy) : Fin 3 × Fin 8 := (i.1, far c i.1 i.2)

theorem copies_nodup : copies.Nodup := by decide
theorem copies_univ : copies.toFinset = Finset.univ := by decide
theorem copies_axes : copies.Perm (axisCopies 0 ++ (axisCopies 1 ++ axisCopies 2)) := by decide +kernel
theorem mem_axisCopies {β : Fin 3} {i : Copy} (h : i ∈ axisCopies β) : axis i.1 i.2 = β := of_decide_eq_true (List.mem_filter.mp h).2
theorem mem_stepCopies : ∀ k < 3, ∀ i ∈ stepCopies k, stepOf i.2 = k := by decide

theorem tiles_nodup : ∀ c : Dev nD, ((stepCopies 0).map (farT c) ++ (stepCopies 0).map (nearT c)).Nodup := by decide +kernel
theorem tiles_univ : ∀ c : Dev nD, Finset.univ = ((stepCopies 0).map (farT c) ++ (stepCopies 0).map (nearT c)).toFinset := by decide +kernel
theorem near0_perm : ∀ c : Dev nD, ((stepCopies 0).map (nearT c)).Perm ((stepCopies 1).map (farT c) ++ (stepCopies 1).map (nearT c)) := by decide +kernel
theorem near1_perm : ∀ c : Dev nD, ((stepCopies 1).map (nearT c)).Perm ((stepCopies 2).map (farT c) ++ (stepCopies 2).map (nearT c)) := by decide +kernel
theorem near0_nodup : ∀ c : Dev nD, ((stepCopies 0).map (nearT c)).Nodup := by decide +kernel
theorem near1_nodup : ∀ c : Dev nD, ((stepCopies 1).map (nearT c)).Nodup := by decide +kernel
theorem near2_eq : ∀ c : Dev nD, (stepCopies 2).map (nearT c) = (List.finRange 3).map fun π => (π, chunkOf c) := by decide +kernel

section Sep

variable {M : Type} [URA M]

theorem bigSepL_sep {I : Type} (l : List I) (Φ Ψ : I → sProp M) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have h (A B C D : sProp M) : iprop((A ∗ B) ∗ C ∗ D) ⊢ iprop((A ∗ C) ∗ B ∗ D) := by
      iintro ⟨⟨H1, H2⟩, H3, H4⟩
      isplitl [H1 H3]
      · isplitl [H1] <;> iassumption
      · isplitl [H2] <;> iassumption
    exact BI.Entails.antisymm (h _ _ _ _) (h _ _ _ _)

/-- All tiles: those sent in the first step and those kept. -/
theorem tiles_split (c : Dev nD) (Φ : Fin 3 × Fin 8 → sProp M) :
    bigSep Finset.univ Φ = iprop((bigSepL (stepCopies 0) fun i => Φ (farT c i)) ∗ bigSepL (stepCopies 0) fun i => Φ (nearT c i)) := by
  rw [bigSep_eq_bigSepL_of_eq _ (tiles_univ c) (tiles_nodup c), bigSepL_append, bigSepL_map, bigSepL_map]
/-- Those kept in the first step: those sent in the second and those kept. -/
theorem near0_split (c : Dev nD) (Φ : Fin 3 × Fin 8 → sProp M) :
    (bigSepL (stepCopies 0) fun i => Φ (nearT c i)) = iprop((bigSepL (stepCopies 1) fun i => Φ (farT c i)) ∗ bigSepL (stepCopies 1) fun i => Φ (nearT c i)) := by
  rw [← bigSepL_map (nearT c), TalkSites.bigSepL_perm (near0_perm c) (near0_nodup c), bigSepL_append, bigSepL_map, bigSepL_map]
/-- Those kept in the second step: those sent in the third and those kept. -/
theorem near1_split (c : Dev nD) (Φ : Fin 3 × Fin 8 → sProp M) :
    (bigSepL (stepCopies 1) fun i => Φ (nearT c i)) = iprop((bigSepL (stepCopies 2) fun i => Φ (farT c i)) ∗ bigSepL (stepCopies 2) fun i => Φ (nearT c i)) := by
  rw [← bigSepL_map (nearT c), TalkSites.bigSepL_perm (near1_perm c) (near1_nodup c), bigSepL_append, bigSepL_map, bigSepL_map]
/-- Those kept in the third step: the device's own chunk. -/
theorem near2_own (c : Dev nD) (Φ : Fin 3 × Fin 8 → sProp M) :
    (bigSepL (stepCopies 2) fun i => Φ (nearT c i)) = bigSep Finset.univ fun π => Φ (π, chunkOf c) := by
  rw [← bigSepL_map (nearT c), near2_eq, bigSepL_map, bigSep_eq_bigSepL_of_eq (List.finRange 3) (by decide) (by decide)]
/-- All slots, axis by axis. -/
theorem copies_split (Φ : Copy → sProp M) :
    bigSepL copies Φ = iprop(bigSepL (axisCopies 0) Φ ∗ bigSepL (axisCopies 1) Φ ∗ bigSepL (axisCopies 2) Φ) := by
  rw [TalkSites.bigSepL_perm copies_axes copies_nodup, bigSepL_append, bigSepL_append]
/-- All copies, step by step. -/
theorem copies_steps (Φ : Copy → sProp M) :
    bigSepL copies Φ = iprop(bigSepL (stepCopies 0) Φ ∗ bigSepL (stepCopies 1) Φ ∗ bigSepL (stepCopies 2) Φ) := by
  rw [copies, bigSepL_append, bigSepL_append]
theorem bigSep_copies (Φ : Copy → sProp M) : bigSep Finset.univ Φ = bigSepL copies Φ :=
  bigSep_eq_bigSepL_of_eq _ copies_univ.symm copies_nodup Φ

end Sep

end Cert.Hypercube

end
-- ==== Proof.Contents.lean ====
/-
What the buffers hold.

`a0 c` stands for the contribution that device `c` has computed before anything is exchanged.  After `k` steps of the reduction the accumulator
of `c` holds `red a0 k c` on the chunks it still keeps; the landing buffer holds `landed a0 c`; the finished result, the same on every device, is
`out a0`.  The lemmas say that each copy, addition and move of the kernel makes these contents out of the earlier ones.
-/
module

public import proofs.«01_k».proof.Proof.Tiles
public import Idealize.ShloMosaic.Lib.Pipeline.Value

@[expose] public section

noncomputable section

namespace Cert.Hypercube

open Cert.KernelIdeal Cert.KernelIdeal.Gen
open Idealize.ShloMosaic
open Idealize.ShloMosaic.TcCoe
open Idealize.SL Idealize.SL.Sem

variable {F : FTy → Type} [FloatOps F]

/-- A device's accumulator after `k` steps of the reduction, on the chunks it still keeps: each step adds the partner's. -/
def red (a0 : Dev nD → FVec F S1024x1024 .f32) : ℕ → Dev nD → FVec F S1024x1024 .f32
  | 0, c => a0 c
  | k + 1, c => addf (red a0 k c) fun i => red a0 k (peer c (axisAt (partOf (i 1).val) k)) i

/-- The element of the full matrix that lies at row `r` of chunk `x` and in column `y`. -/
def at2 (x : Fin 8) (r : Fin 128) (y : Fin 1024) : S1024x1024.Idx :=
  fun a => match a with
    | ⟨0, _⟩ => (⟨128 * x.val + r.val, by have := x.isLt; have := r.isLt; omega⟩ : Fin 1024)
    | ⟨1, _⟩ => y

/-- What lands in a device's slots: for each copy, the partner's sums of the chunk that this device keeps. -/
def landed (a0 : Dev nD → FVec F S1024x1024 .f32) (c : Dev nD) : FVec F S7x128x1024 .f32 := fun j =>
  red a0 (stepOf (j 0)) (peer c (axis (partOf (j 2).val) (j 0))) (at2 (near c (partOf (j 2).val) (j 0)) (j 1) (j 2))

/-- The result: each chunk is what its owner has after three steps. -/
def out (a0 : Dev nD → FVec F S1024x1024 .f32) : FVec F S1024x1024 .f32 := fun i => red a0 3 (owner (chunkIn (i 0).val)) i

variable (a0 : Dev nD → FVec F S1024x1024 .f32)

/-! ## The sets of elements that the kernel's accesses touch -/

theorem tileAt_set (m : Memref sig .tc .vmem S1024x1024 .f32) (p : Fin 3 × Fin 8) {off : Fin 2 → ℕ} (h) (e : off = ![128 * p.2.val, col p.1]) :
    (tileAt m p.1 off h).view.set = (tileSet p).map m.view.emb := by
  subst e; exact View.set_slice _ _
theorem tileAt_acc (p : Fin 3 × Fin 8) {off : Fin 2 → ℕ} (h) (e : off = ![128 * p.2.val, col p.1]) : (tileAt accM p.1 off h).view.set = tileSet p := by
  subst e; exact View.set_slice_whole _ _
theorem tileAt_out (p : Fin 3 × Fin 8) {off : Fin 2 → ℕ} (h) (e : off = ![128 * p.2.val, col p.1]) : (tileAt outM p.1 off h).view.set = tileSet p := by
  subst e; exact View.set_slice_whole _ _
theorem slotM_set (π : Fin 3) (t : Fin 7) : (slotM π t).view.set = slotSet (π, t) :=
  (View.set_reshape _ _).trans (View.set_slice_whole _ _)
theorem keepRect_set (c : Dev nD) (i : Copy) : (keepRect c i.1 i.2).set = tileSet (nearT c i) := by
  have (off : Fin 2 → ℕ) (h) (e : off = ![128 * (near c i.1 i.2).val, col i.1]) :
      (Rect.unit (s := S1024x1024) off (tileSh i.1).size h).set = tileSet (nearT c i) := by subst e; rfl
  exact this _ _ (rsKeepOff_eq c i.1 i.2)
theorem ownRect_set (c : Dev nD) : (ownRect c).set = rowSet (chunkOf c) := by
  have (off : Fin 2 → ℕ) (h) (e : off = ![128 * (chunkOf c).val, 0]) :
      (Rect.unit (s := S1024x1024) off S128x1024.size h).set = rowSet (chunkOf c) := by subst e; rfl
  exact this _ _ (ownOff_eq c)

/-! ## Positions -/

theorem wid_pos (π : Fin 3) (y : Fin (wid π)) : col π + y.val < 1024 := by
  have := y.isLt
  fin_cases π <;> simp [col, wid] at this ⊢ <;> omega

theorem partOf_col (π : Fin 3) (y : Fin (wid π)) : partOf (col π + y.val) = π :=
  (partOf_eq π _ (wid_pos π y)).mpr ⟨Nat.le_add_right _ _, Nat.add_lt_add_left y.isLt _⟩

/-- Row and column in the full matrix's chunk of position `x` of a tile of part `π`. -/
def rowIn {π : Fin 3} (x : (tileSh π).Idx) : Fin 128 := x 0
@[inherit_doc rowIn] def colIn {π : Fin 3} (x : (tileSh π).Idx) : Fin 1024 := ⟨col π + (x 1).val, wid_pos π (x 1)⟩

theorem partOf_colIn {π : Fin 3} (x : (tileSh π).Idx) : partOf (colIn x).val = π := partOf_col π (x 1)

/-- Where position `x` of a tile lies in the full matrix. -/
theorem tile_emb (π : Fin 3) (z : Fin 8) (off : Fin 2 → ℕ) (h : ∀ a, off a + (tileSh π).size a ≤ S1024x1024.size a) (e : off = ![128 * z.val, col π]) (x : (tileSh π).Idx) :
    (Rect.unit (s := S1024x1024) off (tileSh π).size h).emb x = at2 z (rowIn x) (colIn x) := by
  subst e
  funext a
  fin_cases a
  · exact Fin.ext (show 128 * z.val + 1 * (x 0).val = 128 * z.val + (x 0).val by rw [one_mul])
  · exact Fin.ext (show col π + 1 * (x 1).val = col π + (x 1).val by rw [one_mul])

/-- A position of a landing slot, by its coordinates. -/
def at3 (t : Fin 7) (r : Fin 128) (y : Fin 1024) : S7x128x1024.Idx :=
  fun a => match a with | ⟨0, _⟩ => t | ⟨1, _⟩ => r | ⟨2, _⟩ => y

theorem slot_emb (π : Fin 3) (t : Fin 7) (x : (tileSh π).Idx) :
    (slotRect π t).emb (Fin.cons ⟨0, Nat.one_pos⟩ x) = at3 t (rowIn x) (colIn x) := by
  funext a
  fin_cases a
  · exact Fin.ext (show t.val + 1 * 0 = t.val by rfl)
  · exact Fin.ext (show 0 + 1 * (x 0).val = (x 0).val by omega)
  · exact Fin.ext (show col π + 1 * (x 1).val = col π + (x 1).val by rw [one_mul])

theorem slotM_emb (π : Fin 3) (t : Fin 7) (x : (tileSh π).Idx) : (slotM π t).view.emb x = at3 t (rowIn x) (colIn x) := by
  rw [← slot_emb]
  show (slotRect π t).emb (Shape.reshapeEquiv _ x) = _
  rw [Shape.reshapeEquiv_cons_one]

theorem landed_at (c : Dev nD) (π : Fin 3) (t : Fin 7) (x : (tileSh π).Idx) :
    landed a0 c (at3 t (rowIn x) (colIn x))
      = red a0 (stepOf t) (peer c (axis π t)) (at2 (near c π t) (rowIn x) (colIn x)) := by
  show red a0 (stepOf t) (peer c (axis (partOf (colIn x).val) t)) (at2 (near c (partOf (colIn x).val) t) (rowIn x) (colIn x)) = _
  rw [partOf_colIn]

/-! ## What each access makes -/

/-- A copy of the reduction lands the sender's chunk in the partner's slot. -/
theorem land_rs (c : Dev nD) (i : Copy) (fd : S7x128x1024.Idx → Elt F .f32) (j : S7x128x1024.Idx) (hj : j ∈ slotSet i) :
    (slotM i.1 i.2).view.write (Elt F) fd ((tileAt accM i.1 (rsSendOff c i.1 i.2) (rsSend_inb c i.1 i.2)).view.read (Elt F) (red a0 (stepOf i.2) c)) Finset.univ j
      = landed a0 (peer c (axis i.1 i.2)) j := by
  obtain ⟨π, t⟩ := i
  rw [← slotM_set, View.set, Finset.mem_map] at hj
  obtain ⟨x, -, rfl⟩ := hj
  refine Eq.trans (View.write_emb_of_mem (v := (slotM π t).view) (Val := Elt F) fd _ (Finset.mem_univ x)) ?_
  rw [slotM_emb, landed_at, peer_peer, near_peer]
  show red a0 (stepOf t) c ((Rect.unit (s := S1024x1024) (rsSendOff c π t) (tileSh π).size (rsSend_inb c π t)).emb x) = _
  rw [tile_emb π (far c π t) _ _ (rsSendOff_eq c π t)]

/-- The addition makes the next step's sums on the kept chunk. -/
theorem add_rs (c : Dev nD) (i : Copy) (f : S1024x1024.Idx → Elt F .f32) (j : S1024x1024.Idx) (hj : j ∈ tileSet (nearT c i)) :
    (accM.access (keepRect c i.1 i.2)).write (Elt F) f
        (addTile i.1 (accM.view.readAt (Elt F) (keepRect c i.1 i.2).toLoadRect (red a0 (stepOf i.2) c))
          (rsbM.view.readAt (Elt F) (slotRect i.1 i.2).toLoadRect (landed a0 c))) Finset.univ j
      = red a0 (stepOf i.2 + 1) c j := by
  obtain ⟨π, t⟩ := i
  rw [← keepRect_set, ← Rect.map_emb_univ, Finset.mem_map] at hj
  obtain ⟨x, -, rfl⟩ := hj
  have hw := View.write_emb_of_mem (v := accM.access (keepRect c π t)) (Val := Elt F) f
      (addTile π (accM.view.readAt (Elt F) (keepRect c π t).toLoadRect (red a0 (stepOf t) c)) (rsbM.view.readAt (Elt F) (slotRect π t).toLoadRect (landed a0 c)))
      (Finset.mem_univ x)
  refine Eq.trans hw ?_
  have h1 : shapeCast (tileSh π) (rsbM.view.readAt (Elt F) (slotRect π t).toLoadRect (landed a0 c)) (slot_casts π) x
      = red a0 (stepOf t) (peer c (axis π t)) ((keepRect c π t).emb x) := by
    have := shapeCast_dropUnit_apply ![128, wid π] (rsbM.view.readAt (Elt F) (slotRect π t).toLoadRect (landed a0 c)) (slot_casts π) x
    refine this.trans ?_
    show landed a0 c ((slotRect π t).emb (Fin.cons ⟨0, Nat.one_pos⟩ x)) = _
    rw [slot_emb, landed_at, tile_emb π (near c π t) _ _ (rsKeepOff_eq c π t)]
  have h2 : partOf (((keepRect c π t).emb x) 1).val = π := by
    rw [tile_emb π (near c π t) _ _ (rsKeepOff_eq c π t)]; exact partOf_colIn x
  show addTile π _ _ x = FloatOps.addf (red a0 (stepOf t) c ((keepRect c π t).emb x))
    (red a0 (stepOf t) (peer c (axisAt (partOf (((keepRect c π t).emb x) 1).val) (stepOf t))) ((keepRect c π t).emb x))
  rw [h2, addTile, shapeCast_self]
  exact congrArg (FloatOps.addf _) h1

/-- A copy of the gathering phase lands the same tile at the partner. -/
theorem land_ag (π : Fin 3) (z : Fin 8) (off : Fin 2 → ℕ) (h) (e : off = ![128 * z.val, col π]) (fd f : S1024x1024.Idx → Elt F .f32) (j : S1024x1024.Idx) (hj : j ∈ tileSet (π, z)) :
    (tileAt outM π off h).view.write (Elt F) fd ((tileAt outM π off h).view.read (Elt F) f) Finset.univ j = f j := by
  rw [← tileAt_out (π, z) h e, View.set, Finset.mem_map] at hj
  obtain ⟨x, -, rfl⟩ := hj
  exact View.write_emb_of_mem (v := (tileAt outM π off h).view) (Val := Elt F) fd _ (Finset.mem_univ x)

/-- The device's own chunk, after three steps, moved to the result. -/
theorem publish_own (c : Dev nD) (f : S1024x1024.Idx → Elt F .f32) (j : S1024x1024.Idx) (hj : j ∈ rowSet (chunkOf c)) :
    (outM.access (ownRect c)).write (Elt F) f (accM.view.readAt (Elt F) (ownRect c).toLoadRect (red a0 3 c)) Finset.univ j = out a0 j := by
  have hc : chunkIn (j 0).val = chunkOf c := (mem_rowSet _ _).mp hj
  rw [← ownRect_set, ← Rect.map_emb_univ, Finset.mem_map] at hj
  obtain ⟨x, -, rfl⟩ := hj
  refine Eq.trans (View.write_emb_of_mem (v := outM.access (ownRect c)) (Val := Elt F) f _ (Finset.mem_univ x)) ?_
  show red a0 3 c ((ownRect c).emb x) = red a0 3 (owner (chunkIn ((ownRect c).emb x 0).val)) ((ownRect c).emb x)
  rw [hc, owner_chunkOf]

end Cert.Hypercube

end
-- ==== Proof.Schedule.lean ====
/-
Who hands what to whom.

Each device has one barrier semaphore and, for every copy, four DMA semaphores: of the reduction and of the gathering phase, each one for the send and
one for the arrival.  Every semaphore is used for one round.  A device's barrier is raised by its three partners: the partner along axis `β`
hands over, for every copy along `β`, its landing slot and the tile of its result that the copy of the gathering phase will fill.  A send
semaphore gives the sent tile back to the sender; an arrival semaphore gives the receiver what has landed.

Waits are ordered by levels: barriers at 1, the arrivals of the reduction's three steps at 2, 3, 4, those of the gathering phase's three steps at
5, 6, 7; everything a device still owes when it waits lies above the level it waits at.
-/
module

public import proofs.«01_k».proof.Proof.Contents

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

instance : Fintype Ph := ⟨{.rs, .ag}, fun x => by cases x <;> decide⟩
instance : Fintype End := ⟨{.send, .recv}, fun x => by cases x <;> decide⟩

/-- A DMA semaphore of the kernel: phase, end, copy. -/
abbrev Site : Type := Ph × End × Copy
abbrev siteSem (s : Site) : DmaSem sig := copySem s.1 s.2.1 s.2.2.1 s.2.2.2

/-- The site that a semaphore's number stands for. -/
def siteOf (q : DmaSem sig) : Site :=
  let n := q.val - 4
  let ph : Ph := if n < 42 then .rs else .ag
  let e : End := if n / 21 % 2 = 0 then .send else .recv
  let s : Fin 7 := Fin.ofNat 7 (n % 7)
  (ph, e, Fin.ofNat 3 (n % 21 / 7), match ph with
    | .rs => s
    | .ag => match s with | 0 => 6 | 1 => 4 | 2 => 5 | 3 => 0 | 4 => 1 | 5 => 2 | 6 => 3)

theorem siteOf_siteSem : ∀ s : Site, siteOf (siteSem s) = s := by decide +kernel

abbrev barCell (c : Dev nD) : GSem nD τ sig := ((c : Thread nD τ), .reg barS)
abbrev cell (ph : Ph) (e : End) (c : Dev nD) (i : Copy) : GSem nD τ sig := ((c : Thread nD τ), .dma (copySem ph e i.1 i.2))

/-- A device's cells, listed: the barrier and the sites. -/
abbrev csem : Option Site → SemLoc sig := fun | none => .reg barS | some s => .dma (siteSem s)
abbrev kcell (x : Dev nD × Option Site) : GSem nD τ sig := ((x.1 : Thread nD τ), csem x.2)

theorem csem_injective : Function.Injective csem := by
  rintro (_ | s) (_ | s') h
  · rfl
  · cases h
  · cases h
  · have h' : siteSem s = siteSem s' := SemLoc.dma.inj h
    rw [← siteOf_siteSem s, ← siteOf_siteSem s', h']
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units that a copy of part `π` raises a semaphore by. -/
def credit (π : Fin 3) : ℕ := (slotM π 0).view.dmaCredit
theorem credit_pos (π : Fin 3) : 0 < credit π := View.dmaCredit_pos _ (tileSh_pos π)
theorem credit_slot (π : Fin 3) (t : Fin 7) : (slotM π t).view.dmaCredit = credit π := rfl
theorem credit_acc (π : Fin 3) (off : Fin 2 → ℕ) (h) : (tileAt accM π off h).view.dmaCredit = credit π := rfl
theorem credit_out (π : Fin 3) (off : Fin 2 → ℕ) (h) : (tileAt outM π off h).view.dmaCredit = credit π := rfl

/-! ## What is handed over -/

/-- A tile of the accumulator, a landing slot, a tile of the result, on device `c`. -/
def accTile (c : Dev nD) (p : Fin 3 × Fin 8) (f : FVec F S1024x1024 .f32) : sProp 𝕄 := ((c : Thread nD τ).loc cc0_scratch0) ↦[tileSet p]{fullShare} f
@[inherit_doc accTile] def slot (c : Dev nD) (i : Copy) (f : FVec F S7x128x1024 .f32) : sProp 𝕄 := ((c : Thread nD τ).loc cc0_scratch1) ↦[slotSet i]{fullShare} f
@[inherit_doc accTile] def outTile (c : Dev nD) (p : Fin 3 × Fin 8) (f : FVec F S1024x1024 .f32) : sProp 𝕄 := ((c : Thread nD τ).loc cc0_stg3_0) ↦[tileSet p]{fullShare} f

instance accTile_storable (c : Dev nD) (p) (f : FVec F S1024x1024 .f32) : BI.Storable (upEmb : UEmb _ 𝕄) (accTile c p f) := by unfold accTile; infer_instance
instance slot_storable (c : Dev nD) (p) (f : FVec F S7x128x1024 .f32) : BI.Storable (upEmb : UEmb _ 𝕄) (slot c p f) := by unfold slot; infer_instance
instance outTile_storable (c : Dev nD) (p) (f : FVec F S1024x1024 .f32) : BI.Storable (upEmb : UEmb _ 𝕄) (outTile c p f) := by unfold outTile; infer_instance

/-- Room for copy `i` at device `p`: its landing slot and the tile of its result that the gathering phase fills. -/
def room (p : Dev nD) (i : Copy) : sProp 𝕄 := iprop((∃ f, slot p i f) ∗ ∃ f, outTile p (farT p i) f)
/-- What the partner along `β` hands device `c` through its barrier. -/
def barPay (c : Dev nD) (β : Fin 3) : sProp 𝕄 := bigSepL (axisCopies β) (room (F := F) (peer c β))

variable (a0 : Dev nD → FVec F S1024x1024 .f32)

/-- What device `c` takes from the semaphore of a copy. -/
def copyPay (c : Dev nD) (s : Site) : sProp 𝕄 := match s with
  | (.rs, .send, i) => accTile c (farT c i) (red a0 (stepOf i.2) c)
  | (.rs, .recv, i) => slot c i (landed a0 c)
  | (.ag, .send, i) => outTile c (nearT c i) (out a0)
  | (.ag, .recv, i) => outTile c (farT c i) (out a0)

theorem bigSepL_storable {I : Type} (Φ : I → sProp 𝕄) [∀ i, BI.Storable (upEmb : UEmb _ 𝕄) (Φ i)] (l : List I) : BI.Storable (upEmb : UEmb _ 𝕄) (bigSepL l Φ) := by
  induction l with
  | nil => exact BI.Storable.emp _
  | cons i l ih => rw [bigSepL_cons']; infer_instance

instance room_storable (p : Dev nD) (i : Copy) : BI.Storable (upEmb : UEmb _ 𝕄) (room (F := F) p i) := by unfold room; infer_instance
instance barPay_storable (c : Dev nD) (β : Fin 3) : BI.Storable (upEmb : UEmb _ 𝕄) (barPay (F := F) c β) := by unfold barPay; exact bigSepL_storable _ _
instance copyPay_storable (c : Dev nD) (s : Site) : BI.Storable (upEmb : UEmb _ 𝕄) (copyPay a0 c s) := by
  obtain ⟨_ | _, _ | _, i⟩ := s <;> (unfold copyPay; infer_instance)

/-- The schedule: one round each; a barrier's three duties are its partners', a DMA semaphore's one duty its copy's. -/
def sched : Rounds.Schedule (GSem nD τ sig) (Fin 3) 𝕄 where
  duties g r := if r = 0 then (match g.2 with | .reg _ => Finset.univ | .dma _ => {0}) else ∅
  amount g _ _ := match g.2 with | .reg _ => 1 | .dma q => credit (siteOf q).2.2.1
  payload g _ d := match g.2 with | .reg _ => barPay g.1.1 d | .dma q => copyPay a0 g.1.1 (siteOf q)
  amount_pos g _ _ _ := by
    obtain ⟨_, _ | _⟩ := g
    · exact Nat.one_pos
    · exact credit_pos _

instance sched_storable (g : GSem nD τ sig) (r : ℕ) (d : Fin 3) : BI.Storable (upEmb : UEmb _ 𝕄) ((sched a0).payload g r d) := by
  obtain ⟨_, _ | _⟩ := g
  · exact barPay_storable _ _
  · exact copyPay_storable _ _ _

section Facts

variable (c : Dev nD) (s : Site)

omit [FloatOps F] in
theorem later [FloatOps F] (g : GSem nD τ sig) : ∀ r, 1 ≤ r → (sched a0).duties g r = ∅ := fun r hr => if_neg (by omega)
theorem bar_duty (β : Fin 3) : β ∈ (sched a0).duties (barCell c) 0 := Finset.mem_univ β
theorem site_duty : (0 : Fin 3) ∈ (sched a0).duties ((c : Thread nD τ), .dma (siteSem s)) 0 := Finset.mem_singleton_self _
theorem site_amount (d : Fin 3) : (sched a0).amount ((c : Thread nD τ), .dma (siteSem s)) 0 d = credit s.2.2.1 := by
  show credit (siteOf (siteSem s)).2.2.1 = _; rw [siteOf_siteSem]
theorem site_payload (d : Fin 3) : (sched a0).payload ((c : Thread nD τ), .dma (siteSem s)) 0 d = copyPay a0 c s := by
  show copyPay a0 c (siteOf (siteSem s)) = _; rw [siteOf_siteSem]
theorem bar_expect : (sched a0).expect (barCell c) 0 = 3 := rfl
theorem site_expect : (sched a0).expect ((c : Thread nD τ), .dma (siteSem s)) 0 = credit s.2.2.1 := by
  unfold Schedule.expect Schedule.amountOf
  rw [show (sched a0).duties ((c : Thread nD τ), .dma (siteSem s)) 0 = {0} from rfl, Finset.sum_singleton, site_amount]
theorem bar_rest : bigSep ((sched a0).duties (barCell c) 0 \ ∅) (fun d => (sched a0).payload (barCell c) 0 d) = iprop(barPay c 0 ∗ barPay c 1 ∗ barPay c 2) := by
  rw [Finset.sdiff_empty, show (sched a0).duties (barCell c) 0 = Finset.univ from rfl]
  exact bigSep_univ_eq_bigSepL [0, 1, 2] (by decide) (by decide) _
theorem site_rest : bigSep ((sched a0).duties ((c : Thread nD τ), .dma (siteSem s)) 0 \ ∅) (fun d => (sched a0).payload ((c : Thread nD τ), .dma (siteSem s)) 0 d) = copyPay a0 c s := by
  rw [Finset.sdiff_empty, show (sched a0).duties ((c : Thread nD τ), .dma (siteSem s)) 0 = {0} from rfl, bigSep_singleton, site_payload]

end Facts

/-! ## What is owed, and the levels -/

/-- The level of the arrival of a copy. -/
def level : Ph → Copy → ℕ
  | .rs, i => 2 + stepOf i.2
  | .ag, i => 7 - stepOf i.2

/-- A device owes its partner the arrival of each copy it makes. -/
def due (ph : Ph) (c : Dev nD) (i : Copy) : Pay nD τ sig := (cell ph .recv (peer c (axis i.1 i.2)) i, level ph i, credit i.1)
def barDue (c : Dev nD) (β : Fin 3) : Pay nD τ sig := (barCell (peer c β), 1, 1)

/-- What is owed after the barrier signals, in the order in which it is paid: the copies of the reduction, then those of the gathering phase. -/
def copyDues (c : Dev nD) : List (Pay nD τ sig) :=
  (stepCopies 0).map (due .rs c) ++ ((stepCopies 1).map (due .rs c) ++ ((stepCopies 2).map (due .rs c)
    ++ ((stepCopies 2).map (due .ag c) ++ ((stepCopies 1).map (due .ag c) ++ ((stepCopies 0).map (due .ag c) ++ [])))))
def dues (c : Dev nD) : List (Pay nD τ sig) := barDue c 0 :: barDue c 1 :: barDue c 2 :: copyDues c

/-- What is owed to a device. -/
def gets (c : Dev nD) : List (Pay nD τ sig) :=
  (barCell c, 1, 3) :: (copies.map fun i => (cell .rs .recv c i, level .rs i, credit i.1)) ++ copies.map fun i => (cell .ag .recv c i, level .ag i, credit i.1)

/-- Owing a partner, summed over all devices, is each being owed. -/
theorem sum_partners {I : Type} (ax : I → Fin 3) (g : Dev nD → I → Pay nD τ sig) (l : List I) :
    (∑ d : Dev nD, tallyL (l.map fun i => g (peer d (ax i)) i)) = ∑ d : Dev nD, tallyL (l.map (g d)) := by
  induction l with
  | nil => rfl
  | cons i l ih =>
    simp only [List.map_cons, tallyL, Finset.sum_add_distrib, ih]
    congr 1
    exact Equiv.sum_comp (peerEquiv (ax i)) fun d => (g d i).tally

theorem sum_dues : (∑ d : Dev nD, tallyL (dues d)) = ∑ d : Dev nD, tallyL (gets d) := by
  have hb := sum_partners (fun β : Fin 3 => β) (fun d _ => (barCell d, 1, 1)) [0, 1, 2]
  have hs (ph : Ph) (k : ℕ) := sum_partners (fun i : Copy => axis i.1 i.2) (fun d i => (cell ph .recv d i, level ph i, credit i.1)) (stepCopies k)
  have e1 (d : Dev nD) : tallyL (dues d) = tallyL ([0, 1, 2].map (barDue d)) + (tallyL ((stepCopies 0).map (due .rs d)) + (tallyL ((stepCopies 1).map (due .rs d))
      + (tallyL ((stepCopies 2).map (due .rs d)) + (tallyL ((stepCopies 2).map (due .ag d)) + (tallyL ((stepCopies 1).map (due .ag d)) + tallyL ((stepCopies 0).map (due .ag d))))))) := by
    show tallyL ([0, 1, 2].map (barDue d) ++ copyDues d) = _
    rw [TalkSites.tallyL_append, copyDues]
    simp only [TalkSites.tallyL_append, List.append_nil]
  have e2 (d : Dev nD) : tallyL (gets d) = tallyL ([0, 1, 2].map fun _ : Fin 3 => ((barCell d, 1, 1) : Pay nD τ sig)) + (tallyL (copies.map fun i => (cell .rs .recv d i, level .rs i, credit i.1))
      + tallyL (copies.map fun i => (cell .ag .recv d i, level .ag i, credit i.1))) := by
    rw [gets, List.cons_append, tallyL, TalkSites.tallyL_append]
    congr 1
    show tallyAt _ _ 3 = tallyAt _ _ 1 + (tallyAt _ _ 1 + (tallyAt _ _ 1 + 0))
    rw [add_zero, tallyAt_add, tallyAt_add]
  simp only [e1, e2, copies, List.map_append, TalkSites.tallyL_append, Finset.sum_add_distrib]
  have hs' (ph : Ph) (k : ℕ) : (∑ d : Dev nD, tallyL ((stepCopies k).map (due ph d))) = ∑ d : Dev nD, tallyL ((stepCopies k).map fun i => (cell ph .recv d i, level ph i, credit i.1)) := hs ph k
  rw [hs', hs', hs', hs', hs', hs', show (∑ d : Dev nD, tallyL ([0, 1, 2].map (barDue d))) = _ from hb]
  abel

theorem gets_own (d : Dev nD) : ∀ x ∈ gets d, x.1.1 = (d : Thread nD τ) := by
  intro x hx
  rw [gets, List.cons_append, List.mem_cons, List.mem_append, List.mem_map, List.mem_map] at hx
  rcases hx with rfl | ⟨i, -, rfl⟩ | ⟨i, -, rfl⟩ <;> rfl

omit [FloatOps F] in
/-- A device's credit at launch. -/
theorem launch_credit (c : Dev nD) : (Pipeline.launchCred (fun d => tallyL (dues d)) c : sProp 𝕄) = cred (tallyL (gets c)) :=
  Pipeline.launchCred_of_sum _ (fun d => tallyL (gets d)) sum_dues
    (fun d g hg => by
      obtain ⟨i, hi⟩ := DFunLike.ne_iff.mp hg
      obtain ⟨x, hx, rfl, -⟩ := TalkSites.tallyL_pos (Nat.pos_of_ne_zero hi)
      exact gets_own d x hx) c

abbrev L : GSem nD τ sig → Finset ℕ := SiteBlocks.L 8
abbrev lv : GSem nD τ sig → ℕ → ℕ := SiteBlocks.lv

/-- Everything in a list of payments lies above level `i` (and has a level). -/
def Above (i : ℕ) (l : List (Pay nD τ sig)) : Prop := ∀ x ∈ l, x.1.1.2 = .tc ∧ i < x.2.1 ∧ x.2.1 < 8

omit [FloatOps F] in
theorem mayWait {i : ℕ} (hi : i < 8) (c : Dev nD) (sm : SemLoc sig) {l : List (Pay nD τ sig)} (h : Above i l) :
    (levAts L lv : sProp 𝕄) ⊢ MayWait (c : Thread nD τ) sm i (tallyL l) :=
  SiteBlocks.mayWait_of hi c sm _ fun g k hg => by
    obtain ⟨x, hx, rfl, rfl⟩ := TalkSites.tallyL_pos hg
    obtain ⟨h1, h2, h3⟩ := h x hx
    exact ⟨SiteBlocks.mem_L' h1 h3, h2⟩

theorem above_nil (i : ℕ) : Above i [] := fun _ h => absurd h List.not_mem_nil
theorem above_append {i : ℕ} {l l' : List (Pay nD τ sig)} (h : Above i l) (h' : Above i l') : Above i (l ++ l') := fun x hx =>
  (List.mem_append.mp hx).elim (h x) (h' x)
theorem above_mono {i j : ℕ} (hij : i ≤ j) {l : List (Pay nD τ sig)} (h : Above j l) : Above i l := fun x hx =>
  ⟨(h x hx).1, lt_of_le_of_lt hij (h x hx).2.1, (h x hx).2.2⟩
theorem above_rs (c : Dev nD) {k : ℕ} (hk : k < 3) : Above (1 + k) ((stepCopies k).map (due .rs c)) := fun x hx => by
  obtain ⟨i, hi, rfl⟩ := List.mem_map.mp hx
  have := mem_stepCopies k hk i hi
  exact ⟨rfl, by show 1 + k < 2 + stepOf i.2; omega, by show 2 + stepOf i.2 < 8; omega⟩
theorem above_ag (c : Dev nD) {k : ℕ} (hk : k < 3) : Above (6 - k) ((stepCopies k).map (due .ag c)) := fun x hx => by
  obtain ⟨i, hi, rfl⟩ := List.mem_map.mp hx
  have := mem_stepCopies k hk i hi
  exact ⟨rfl, by show 6 - k < 7 - stepOf i.2; omega, by show 7 - stepOf i.2 < 8; omega⟩

end Cert.Hypercube

end
-- ==== Proof.Steps.lean ====
/-
The steps of the walk, one rule each.

From the invariants of all cells (`known`), a copy's rule turns what the copy needs and what the device still owes into what the copy leaves; a
step's rule runs its copies one after the other.
-/
module

public import proofs.«01_k».proof.Proof.Schedule

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (a0 : Dev nD → FVec F S1024x1024 .f32) (κ : GSem nD τ sig → ℕ)

abbrev 𝒱₀ : Variants := Variants.none
/-- The weakest precondition of a piece of the body on device `c`. -/
abbrev run (c : Dev nD) (p : Body F PUnit) (Q : PUnit → sProp 𝕄) : sProp 𝕄 := wp frame (wpE (defs₀ (F := F)) 𝒱₀ (c : Thread nD τ) none) Set.univ p Q

/-! ## What is known throughout -/

/-- All cells. -/
def cells : Finset (GSem nD τ sig) := (Finset.univ : Finset (Dev nD × Option Site)).map ⟨kcell, kcell_injective⟩
theorem mem_cells (x : Dev nD × Option Site) : kcell x ∈ cells := Finset.mem_map_of_mem _ (Finset.mem_univ x)

/-- Every cell's invariant, that its round is open, and the levels. -/
def known : sProp 𝕄 := iprop((bigSep cells fun g => cellInv ER (sched a0) (κ g) g) ∗ (bigSep cells fun g => reached ER g 0) ∗ levAts L lv)

instance known_persistent : BI.Persistent (known a0 κ) := by unfold known; infer_instance

theorem known_inv (x : Dev nD × Option Site) : known a0 κ ⊢ iprop(cellInv ER (sched a0) (κ (kcell x)) (kcell x) ∗ reached ER (kcell x) 0) := by
  have h1 : iprop(bigSep cells fun g => cellInv ER (sched a0) (κ g) g) ⊢ iprop(cellInv ER (sched a0) (κ (kcell x)) (kcell x)) := bigSep_elim (mem_cells x)
  have h2 : iprop(bigSep cells fun g => (reached ER g 0 : sProp 𝕄)) ⊢ iprop(reached ER (kcell x) 0) := bigSep_elim (mem_cells x)
  unfold known
  iintro ⟨#Hi, #Hr, -⟩
  isplitl
  · iapply h1 $$ Hi
  · iapply h2 $$ Hr
theorem known_lev : known a0 κ ⊢ (levAts L lv : sProp 𝕄) := by
  unfold known
  iintro ⟨-, -, #Hl⟩
  iexact Hl

/-- What a device owes, whatever waits it has made. -/
def owing (c : Dev nD) (l : List (Pay nD τ sig)) : sProp 𝕄 := iprop(∃ W, owes (c : Thread nD τ) (tallyL l) W)

/-- A cell at its start; a finished cell's counter. -/
def fresh (g : GSem nD τ sig) : sProp 𝕄 := atPos ER g 0 ∅ 0
def token (g : GSem nD τ sig) (d : Fin 3) : sProp 𝕄 := dutyTok ER g 0 d

/-! ## One after the other -/

omit [FloatOps F] in
theorem wp_each [FloatOps F] {c : Dev nD} {K : sProp 𝕄} [BI.Persistent K] (f : Fin 3 → Fin 7 → Body F PUnit) (Pre Post : Copy → sProp 𝕄) (O : List Copy → sProp 𝕄) (Q : PUnit → sProp 𝕄) (p : Body F PUnit) :
    ∀ l : List Copy, (∀ i ∈ l, ∀ l' : List Copy, ∀ k : Body F PUnit, iprop(K ∗ Pre i ∗ O (i :: l')) ⊢ iprop(((Post i ∗ O l') -∗ run c k Q) -∗ run c (f i.1 i.2 >>= fun _ => k) Q)) →
      iprop(K ∗ bigSepL l Pre ∗ O l) ⊢ iprop(((bigSepL l Post ∗ O []) -∗ run c p Q) -∗ run c (each f l p) Q) := by
  intro l
  induction l with
  | nil =>
    intro _
    rw [bigSepL_nil, bigSepL_nil, show each f [] p = p from rfl]
    iintro ⟨-, H, HO⟩ Hk
    iapply Hk
    isplitl [H] <;> iassumption
  | cons i l ih =>
    intro h
    rw [bigSepL_cons', bigSepL_cons', show each f (i :: l) p = (f i.1 i.2 >>= fun _ => each f l p) from rfl]
    iintro ⟨#HK, ⟨Hi, Hl⟩, HO⟩ Hk
    iapply (h i List.mem_cons_self l (each f l p)) $$ [Hi HO] [Hl Hk]
    · isplitr; · iexact HK
      isplitl [Hi] <;> iassumption
    iintro ⟨Hi, HO⟩
    iapply (ih fun j hj => h j (List.mem_cons_of_mem _ hj)) $$ [Hl HO] [Hi Hk]
    · isplitr; · iexact HK
      isplitl [Hl] <;> iassumption
    iintro ⟨Hl, HO⟩
    iapply Hk
    isplitr [HO]
    · isplitl [Hi] <;> iassumption
    · iexact HO

/-! ## A copy's send -/

theorem pts_congr {ℓ : Loc nD τ sig} {S : Finset (Idx ℓ)} {f g : Buf (Elt F) ℓ} (h : ∀ i ∈ S, f i = g i) : (ℓ ↦[S]{fullShare} f : sProp 𝕄) ⊢ (ℓ ↦[S]{fullShare} g) :=
  Entails.of_eq (pointsTo_congr h)

/-- The two tokens of a copy: that it leaves and that it arrives. -/
def tokens (ph : Ph) (c : Dev nD) (i : Copy) : sProp 𝕄 := iprop(token (cell ph .send c i) 0 ∗ token (cell ph .recv (peer c (axis i.1 i.2)) i) 0)
/-- What the sender gets to wait for its copy with. -/
def sent (ph : Ph) (c : Dev nD) (i : Copy) : sProp 𝕄 := cred (tallyAt (cell ph .send c i) 0 (credit i.1))

theorem rsSend_set (c : Dev nD) (i : Copy) : (tileAt accM i.1 (rsSendOff c i.1 i.2) (rsSend_inb c i.1 i.2)).view.set = tileSet (farT c i) :=
  tileAt_acc (farT c i) _ (rsSendOff_eq c i.1 i.2)
theorem agSend_set (c : Dev nD) (i : Copy) : (tileAt outM i.1 (agSendOff c i.1 i.2) (agSend_inb c i.1 i.2)).view.set = tileSet (nearT c i) :=
  tileAt_out (nearT c i) _ (agSendOff_eq c i.1 i.2)

theorem tallyL_due (ph : Ph) (c : Dev nD) (i : Copy) (rest : List (Pay nD τ sig)) :
    tallyL (due ph c i :: rest) = tallyL rest + tallyAt (cell ph .recv (peer c (axis i.1 i.2)) i) (level ph i) (credit i.1) := add_comm _ _

/-- A send of the reduction, addressed to `n`. -/
theorem send_rs_to (c n : Dev nD) (i : Copy) (hn : n = peer c (axis i.1 i.2)) (hsc hsrc hdst hsem) (rest : List (Pay nD τ sig)) (k : PUnit → Body F PUnit) (Q : PUnit → sProp 𝕄) :
    iprop(known a0 κ ∗ (tokens .rs c i ∗ accTile c (farT c i) (red a0 (stepOf i.2) c) ∗ ∃ f, slot (peer c (axis i.1 i.2)) i f) ∗ owing c (due .rs c i :: rest))
      ⊢ iprop(((sent .rs c i ∗ owing c rest) -∗ run c (k ⟨⟩) Q) -∗ run c (.op (.enqueueDma (tileAt accM i.1 (rsSendOff c i.1 i.2) (rsSend_inb c i.1 i.2))
          (.remote (Dev.tc n : Thread nD τ) (slotM i.1 i.2) (.dma (copySem .rs .send i.1 i.2)) hsc) (.dma (copySem .rs .recv i.1 i.2)) hsrc hdst hsem) k) Q) := by
  subst hn
  unfold tokens token owing sent
  iintro ⟨#HK, ⟨⟨Ht1, Ht2⟩, Ha, ⟨%f, Hs⟩⟩, ⟨%W, HO⟩⟩ Hk
  ihave #H1 := (known_inv a0 κ (c, some (.rs, .send, i))) $$ HK
  icases H1 with ⟨#Hi1, #Hr1⟩
  ihave #H2 := (known_inv a0 κ (peer c (axis i.1 i.2), some (.rs, .recv, i))) $$ HK
  icases H2 with ⟨#Hi2, #Hr2⟩
  have hp1 : (((c : Thread nD τ).loc cc0_scratch0) ↦[(tileAt accM i.1 (rsSendOff c i.1 i.2) (rsSend_inb c i.1 i.2)).view.set]{fullShare} (red a0 (stepOf i.2) c)) ⊢ copyPay a0 c (.rs, .send, i) :=
    Entails.of_eq (by rw [rsSend_set]; rfl)
  have hp2 : (((peer c (axis i.1 i.2) : Thread nD τ).loc cc0_scratch1) ↦[(slotM i.1 i.2).view.set]{fullShare}
      ((slotM i.1 i.2).view.write (Elt F) f ((tileAt accM i.1 (rsSendOff c i.1 i.2) (rsSend_inb c i.1 i.2)).view.read (Elt F) (red a0 (stepOf i.2) c)) Finset.univ)) ⊢ copyPay a0 (peer c (axis i.1 i.2)) (.rs, .recv, i) := by
    rw [slotM_set]
    exact pts_congr fun j hj => land_rs a0 c i f j hj
  rw [← site_payload a0 _ (.rs, .send, i) 0] at hp1
  rw [← site_payload a0 _ (.rs, .recv, i) 0] at hp2
  iapply (Rounds.wp_send_pointsTo 𝒱₀ ER (sched a0) (c : Thread nD τ) none (src := tileAt accM i.1 (rsSendOff c i.1 i.2) (rsSend_inb c i.1 i.2)) (dst := slotM i.1 i.2)
      (c' := (peer c (axis i.1 i.2) : Thread nD τ)) (sS := .dma (copySem .rs .send i.1 i.2)) (sem := .dma (copySem .rs .recv i.1 i.2))
      (κ₁ := κ (kcell (c, some (.rs, .send, i)))) (κ₂ := κ (kcell (peer c (axis i.1 i.2), some (.rs, .recv, i))))
      (r₁ := 0) (r₂ := 0) (d₁ := 0) (d₂ := 0) (q := fullShare) (fs := red a0 (stepOf i.2) c) (fd := f)
      (site_duty a0 c (.rs, .send, i)) (site_duty a0 (peer c (axis i.1 i.2)) (.rs, .recv, i)) (level .rs i) 0 (credit i.1) (credit_slot _ _)
      (site_amount a0 c (.rs, .send, i) 0) (site_amount a0 (peer c (axis i.1 i.2)) (.rs, .recv, i) 0) (tallyL rest) (tallyL_due _ c i rest) (W := W)
      hp1
      hp2) $$ [Ht1 Ht2 Ha Hs HO] [Hk]
  · isplitr; · iexact Hi1
    isplitr; · iexact Hi2
    isplitl [Ha]
    · rw [rsSend_set]; unfold accTile; iexact Ha
    isplitl [Hs]
    · rw [slotM_set]; unfold slot; iexact Hs
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A send of the gathering phase, addressed to `n`. -/
theorem send_ag_to (c n : Dev nD) (i : Copy) (hn : n = peer c (axis i.1 i.2)) (hsc hsrc hdst hsem) (rest : List (Pay nD τ sig)) (k : PUnit → Body F PUnit) (Q : PUnit → sProp 𝕄) :
    iprop(known a0 κ ∗ (tokens .ag c i ∗ outTile c (nearT c i) (out a0) ∗ ∃ f, outTile (peer c (axis i.1 i.2)) (farT (peer c (axis i.1 i.2)) i) f) ∗ owing c (due .ag c i :: rest))
      ⊢ iprop(((sent .ag c i ∗ owing c rest) -∗ run c (k ⟨⟩) Q) -∗ run c (.op (.enqueueDma (tileAt outM i.1 (agSendOff c i.1 i.2) (agSend_inb c i.1 i.2))
          (.remote (Dev.tc n : Thread nD τ) (tileAt outM i.1 (agSendOff c i.1 i.2) (agSend_inb c i.1 i.2)) (.dma (copySem .ag .send i.1 i.2)) hsc) (.dma (copySem .ag .recv i.1 i.2)) hsrc hdst hsem) k) Q) := by
  subst hn
  have hT : farT (peer c (axis i.1 i.2)) i = nearT c i := by unfold farT nearT; rw [far_peer]
  unfold tokens token owing sent
  iintro ⟨#HK, ⟨⟨Ht1, Ht2⟩, Ha, ⟨%f, Hs⟩⟩, ⟨%W, HO⟩⟩ Hk
  ihave #H1 := (known_inv a0 κ (c, some (.ag, .send, i))) $$ HK
  icases H1 with ⟨#Hi1, #Hr1⟩
  ihave #H2 := (known_inv a0 κ (peer c (axis i.1 i.2), some (.ag, .recv, i))) $$ HK
  icases H2 with ⟨#Hi2, #Hr2⟩
  have hp1 : (((c : Thread nD τ).loc cc0_stg3_0) ↦[(tileAt outM i.1 (agSendOff c i.1 i.2) (agSend_inb c i.1 i.2)).view.set]{fullShare} (out a0)) ⊢ copyPay a0 c (.ag, .send, i) :=
    Entails.of_eq (by rw [agSend_set]; rfl)
  have hp2 : (((peer c (axis i.1 i.2) : Thread nD τ).loc cc0_stg3_0) ↦[(tileAt outM i.1 (agSendOff c i.1 i.2) (agSend_inb c i.1 i.2)).view.set]{fullShare}
      ((tileAt outM i.1 (agSendOff c i.1 i.2) (agSend_inb c i.1 i.2)).view.write (Elt F) f ((tileAt outM i.1 (agSendOff c i.1 i.2) (agSend_inb c i.1 i.2)).view.read (Elt F) (out a0)) Finset.univ))
        ⊢ copyPay a0 (peer c (axis i.1 i.2)) (.ag, .recv, i) := by
    rw [agSend_set, copyPay, hT]
    exact pts_congr fun j hj => land_ag i.1 (near c i.1 i.2) _ _ (agSendOff_eq c i.1 i.2) f (out a0) j hj
  rw [← site_payload a0 _ (.ag, .send, i) 0] at hp1
  rw [← site_payload a0 _ (.ag, .recv, i) 0] at hp2
  iapply (Rounds.wp_send_pointsTo 𝒱₀ ER (sched a0) (c : Thread nD τ) none (src := tileAt outM i.1 (agSendOff c i.1 i.2) (agSend_inb c i.1 i.2)) (dst := tileAt outM i.1 (agSendOff c i.1 i.2) (agSend_inb c i.1 i.2))
      (c' := (peer c (axis i.1 i.2) : Thread nD τ)) (sS := .dma (copySem .ag .send i.1 i.2)) (sem := .dma (copySem .ag .recv i.1 i.2))
      (κ₁ := κ (kcell (c, some (.ag, .send, i)))) (κ₂ := κ (kcell (peer c (axis i.1 i.2), some (.ag, .recv, i))))
      (r₁ := 0) (r₂ := 0) (d₁ := 0) (d₂ := 0) (q := fullShare) (fs := out a0) (fd := f)
      (site_duty a0 c (.ag, .send, i)) (site_duty a0 (peer c (axis i.1 i.2)) (.ag, .recv, i)) (level .ag i) 0 (credit i.1) (credit_out _ _ _)
      (site_amount a0 c (.ag, .send, i) 0) (site_amount a0 (peer c (axis i.1 i.2)) (.ag, .recv, i) 0) (tallyL rest) (tallyL_due _ c i rest) (W := W)
      hp1
      hp2) $$ [Ht1 Ht2 Ha Hs HO] [Hk]
  · isplitr; · iexact Hi1
    isplitr; · iexact Hi2
    isplitl [Ha]
    · rw [agSend_set]; unfold outTile; iexact Ha
    isplitl [Hs]
    · rw [agSend_set, hT]; unfold outTile; iexact Hs
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## A copy's waits -/

/-- What a device waits for a copy with. -/
def waits (ph : Ph) (c : Dev nD) (i : Copy) : sProp 𝕄 := iprop(cred (tallyAt (cell ph .recv c i) (level ph i) (credit i.1)) ∗ fresh (cell ph .send c i) ∗ fresh (cell ph .recv c i))
/-- What the waits leave of the semaphores. -/
def spent (ph : Ph) (c : Dev nD) (i : Copy) : sProp 𝕄 := iprop(semVal (cell ph .send c i) 0 ∗ semVal (cell ph .recv c i) 0)

/-- One wait on a copy's semaphore, by an operation that waits for the copy's units: what the semaphore hands over, and its counter. -/
theorem wait_site (c : Dev nD) (s : Site) (ι : ℕ) (hι : ι < 8) {rest : List (Pay nD τ sig)} (hr : Above ι rest) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (siteSem s)) (credit s.2.2.1) K)
    (k : PUnit → Body F PUnit) (Q : PUnit → sProp 𝕄) :
    iprop(known a0 κ ∗ (cred (tallyAt ((c : Thread nD τ), .dma (siteSem s)) ι (credit s.2.2.1)) ∗ fresh ((c : Thread nD τ), .dma (siteSem s))) ∗ owing c rest)
      ⊢ iprop(((copyPay a0 c s ∗ semVal ((c : Thread nD τ), .dma (siteSem s)) 0 ∗ owing c rest) -∗ run c (k ⟨⟩) Q) -∗ run c (.op w k) Q) := by
  unfold owing fresh
  iintro ⟨#HK, ⟨Hc, Ha⟩, ⟨%W, HO⟩⟩ Hk
  ihave #H1 := (known_inv a0 κ (c, some s)) $$ HK
  icases H1 with ⟨#Hi, -⟩
  ihave #Hl := (known_lev a0 κ) $$ HK
  iapply (Rounds.wp_wait_rest_token 𝒱₀ ER (sched a0) (c : Thread nD τ) none (κ := κ (kcell (c, some s))) hw (Set.mem_univ _) ι (O := tallyL rest) (W := W) (R := 0) (m := 0) (T := ∅)
      (by rw [Nat.zero_add, site_expect])) $$ [Hc HO Ha] [Hk]
  · isplitr; · iexact Hi
    isplitl [Hc]; · iexact Hc
    isplitl [HO]; · iexact HO
    isplitr; · iapply (mayWait hι c _ hr) $$ Hl
    iexact Ha
  iintro ⟨HO, Ha, -, Hp⟩
  ihave Hp := (Entails.of_eq (site_rest a0 c s)) $$ Hp
  imod (Rounds.cell_close ER (sched a0) (Set.mem_univ (κ (kcell (c, some s)))) (fun h => h) (R := 0 + 1) (later a0 _)) $$ [Ha] with Hz
  · isplitr; · iexact Hi
    iexact Ha
  iapply Hk
  isplitl [Hp]; · iexact Hp
  isplitl [Hz]; · iexact Hz
  iexists _; iexact HO

/-- What finishing a copy of the reduction leaves: the sent tile back, the kept one with the next sums, the landing slot. -/
def doneRs (c : Dev nD) (i : Copy) : sProp 𝕄 :=
  iprop(accTile c (farT c i) (red a0 (stepOf i.2) c) ∗ accTile c (nearT c i) (red a0 (stepOf i.2 + 1) c) ∗ slot c i (landed a0 c) ∗ spent .rs c i)
/-- What finishing a copy of the gathering phase leaves: both tiles finished. -/
def doneAg (c : Dev nD) (i : Copy) : sProp 𝕄 := iprop(outTile c (nearT c i) (out a0) ∗ outTile c (farT c i) (out a0) ∗ spent .ag c i)

theorem setOn_keep (c : Dev nD) (i : Copy) : accM.view.setOn (keepRect c i.1 i.2).toLoadRect.set = tileSet (nearT c i) :=
  ((View.set_slice (v := accM.view) (keepRect c i.1 i.2)).symm.trans (View.set_slice_whole cc0_scratch0 _)).trans (keepRect_set c i)
theorem setOn_slot (i : Copy) : rsbM.view.setOn (slotRect i.1 i.2).toLoadRect.set = slotSet i :=
  (View.set_slice (v := rsbM.view) (slotRect i.1 i.2)).symm.trans (View.set_slice_whole cc0_scratch1 _)
theorem set_keep (c : Dev nD) (i : Copy) : (accM.access (keepRect c i.1 i.2)).set = tileSet (nearT c i) := (View.set_slice_whole _ _).trans (keepRect_set c i)

/-- The kernel's waits wait for a copy's units. -/
theorem wait_rs_send (c : Dev nD) (i : Copy) (h1 h2) (K : PUnit → sProp 𝕄) :
    wpE (defs₀ (F := F)) 𝒱₀ (c : Thread nD τ) none Set.univ (.waitDma2 (copySem .rs .send i.1 i.2) (slotM i.1 i.2) (tileAt accM i.1 (rsSendOff c i.1 i.2) (rsSend_inb c i.1 i.2)) h1 h2) K
      = waitSpec (c : Thread nD τ) Set.univ (.dma (siteSem (.rs, .send, i))) (credit i.1) K := wpE_waitDma2_eq 𝒱₀ (c : Thread nD τ) none Set.univ K
@[inherit_doc wait_rs_send] theorem wait_rs_recv (c : Dev nD) (i : Copy) (h1 h2) (K : PUnit → sProp 𝕄) :
    wpE (defs₀ (F := F)) 𝒱₀ (c : Thread nD τ) none Set.univ (.waitDma2 (copySem .rs .recv i.1 i.2) (tileAt accM i.1 (rsSendOff c i.1 i.2) (rsSend_inb c i.1 i.2)) (slotM i.1 i.2) h1 h2) K
      = waitSpec (c : Thread nD τ) Set.univ (.dma (siteSem (.rs, .recv, i))) (credit i.1) K := wpE_waitDma2_eq 𝒱₀ (c : Thread nD τ) none Set.univ K
@[inherit_doc wait_rs_send] theorem wait_ag (e : End) (c : Dev nD) (i : Copy) (h1 h2) (K : PUnit → sProp 𝕄) :
    wpE (defs₀ (F := F)) 𝒱₀ (c : Thread nD τ) none Set.univ (.waitDma2 (copySem .ag e i.1 i.2) (tileAt outM i.1 (agSendOff c i.1 i.2) (agSend_inb c i.1 i.2)) (tileAt outM i.1 (agSendOff c i.1 i.2) (agSend_inb c i.1 i.2)) h1 h2) K
      = waitSpec (c : Thread nD τ) Set.univ (.dma (siteSem (.ag, e, i))) (credit i.1) K := wpE_waitDma2_eq 𝒱₀ (c : Thread nD τ) none Set.univ K

/-- The kept tile after the addition holds the next step's sums. -/
theorem added (c : Dev nD) (i : Copy) :
    (((c : Thread nD τ).loc cc0_scratch0) ↦[tileSet (nearT c i)]{fullShare} ((accM.access (keepRect c i.1 i.2)).write (Elt F) (red a0 (stepOf i.2) c)
        (addTile i.1 (accM.view.readAt (Elt F) (keepRect c i.1 i.2).toLoadRect (red a0 (stepOf i.2) c))
          (rsbM.view.readAt (Elt F) (slotRect i.1 i.2).toLoadRect (landed a0 c))) Finset.univ))
      ⊢ (((c : Thread nD τ).loc cc0_scratch0) ↦[tileSet (nearT c i)]{fullShare} (red a0 (stepOf i.2 + 1) c) : sProp 𝕄) :=
  pts_congr fun j hj => add_rs a0 c i _ j hj

theorem finish_rs (c : Dev nD) (i : Copy) {rest : List (Pay nD τ sig)} (hr : Above (level .rs i) rest) (k : Body F PUnit) (Q : PUnit → sProp 𝕄) :
    iprop(known a0 κ ∗ (sent .rs c i ∗ waits .rs c i ∗ accTile c (nearT c i) (red a0 (stepOf i.2) c)) ∗ owing c rest)
      ⊢ iprop(((doneRs a0 c i ∗ owing c rest) -∗ run c k Q) -∗ run c (rsFinish c i.1 i.2 >>= fun _ => k) Q) := by
  have h8 : level .rs i < 8 := by have : ∀ t, 2 + stepOf t < 8 := by decide
                                  exact this i.2
  unfold sent waits doneRs spent
  iintro ⟨#HK, ⟨Hc1, ⟨Hc2, Ha1, Ha2⟩, Hn⟩, HO⟩ Hk
  simp only [rsFinish, rsWaitSend, rsWaitRecv, rsAdd, Prog.lift, Prog.bind_op, Prog.bind_ret]
  iapply (wait_site a0 κ c (.rs, .send, i) 0 (by decide) (above_mono (Nat.zero_le _) hr) (wait_rs_send c i _ _)) $$ [Hc1 Ha1 HO]
  · isplitr; · iexact HK
    isplitl [Hc1 Ha1]
    · isplitl [Hc1] <;> iassumption
    iexact HO
  iintro ⟨Hf, Hz1, HO⟩
  iapply (wait_site a0 κ c (.rs, .recv, i) (level .rs i) h8 hr (wait_rs_recv c i _ _)) $$ [Hc2 Ha2 HO]
  · isplitr; · iexact HK
    isplitl [Hc2 Ha2]
    · isplitl [Hc2] <;> iassumption
    iexact HO
  iintro ⟨Hs, Hz2, HO⟩
  unfold copyPay accTile slot
  iapply (wp_load 𝒱₀ (c : Thread nD τ) none Set.univ (m := accM) (S := tileSet (nearT c i)) (setOn_keep c i).subset) $$ Hn; iintro Hn
  iapply (wp_load 𝒱₀ (c : Thread nD τ) none Set.univ (m := rsbM) (S := slotSet i) (setOn_slot i).subset) $$ Hs; iintro Hs
  iapply (wp_load 𝒱₀ (c : Thread nD τ) none Set.univ (m := accM) (S := tileSet (nearT c i)) (setOn_keep c i).subset) $$ Hn; iintro Hn
  iapply (wp_store 𝒱₀ (c : Thread nD τ) none Set.univ (m := accM) (r := keepRect c i.1 i.2) (Mk := Finset.univ) (S := tileSet (nearT c i)) (set_keep c i).subset) $$ Hn; iintro Hn
  iapply Hk
  isplitr [HO]
  · isplitl [Hf]; · iexact Hf
    isplitl [Hn]
    · iapply (added a0 c i) $$ Hn
    isplitl [Hs]; · iexact Hs
    isplitl [Hz1] <;> iassumption
  iexact HO

theorem finish_ag (c : Dev nD) (i : Copy) {rest : List (Pay nD τ sig)} (hr : Above (level .ag i) rest) (k : Body F PUnit) (Q : PUnit → sProp 𝕄) :
    iprop(known a0 κ ∗ (sent .ag c i ∗ waits .ag c i) ∗ owing c rest)
      ⊢ iprop(((doneAg a0 c i ∗ owing c rest) -∗ run c k Q) -∗ run c (agFinish c i.1 i.2 >>= fun _ => k) Q) := by
  have h8 : level .ag i < 8 := by have : ∀ t, 7 - stepOf t < 8 := by decide
                                  exact this i.2
  unfold sent waits doneAg spent
  iintro ⟨#HK, ⟨Hc1, ⟨Hc2, Ha1, Ha2⟩⟩, HO⟩ Hk
  simp only [agFinish, agWait, Prog.lift, Prog.bind_op, Prog.bind_ret]
  iapply (wait_site a0 κ c (.ag, .send, i) 0 (by decide) (above_mono (Nat.zero_le _) hr) (wait_ag .send c i _ _)) $$ [Hc1 Ha1 HO]
  · isplitr; · iexact HK
    isplitl [Hc1 Ha1]
    · isplitl [Hc1] <;> iassumption
    iexact HO
  iintro ⟨Hf, Hz1, HO⟩
  iapply (wait_site a0 κ c (.ag, .recv, i) (level .ag i) h8 hr (wait_ag .recv c i _ _)) $$ [Hc2 Ha2 HO]
  · isplitr; · iexact HK
    isplitl [Hc2 Ha2]
    · isplitl [Hc2] <;> iassumption
    iexact HO
  iintro ⟨Hs, Hz2, HO⟩
  unfold copyPay
  iapply Hk
  isplitr [HO]
  · isplitl [Hf]; · iexact Hf
    isplitl [Hs]; · iexact Hs
    isplitl [Hz1] <;> iassumption
  iexact HO

/-! ## A step -/

theorem step_rs (c : Dev nD) {k : ℕ} (hk : k < 3) {rest : List (Pay nD τ sig)} (hr : Above (2 + k) rest) (p : Body F PUnit) (Q : PUnit → sProp 𝕄) :
    iprop(known a0 κ ∗ ((bigSepL (stepCopies k) (tokens .rs c)) ∗ (bigSepL (stepCopies k) (waits .rs c)) ∗ (bigSepL (stepCopies k) fun i => accTile c (farT c i) (red a0 k c))
        ∗ (bigSepL (stepCopies k) fun i => accTile c (nearT c i) (red a0 k c)) ∗ (bigSepL (stepCopies k) fun i => iprop(∃ f, slot (peer c (axis i.1 i.2)) i f)))
        ∗ owing c ((stepCopies k).map (due .rs c) ++ rest))
      ⊢ iprop((((bigSepL (stepCopies k) fun i => accTile c (farT c i) (red a0 k c)) ∗ (bigSepL (stepCopies k) fun i => accTile c (nearT c i) (red a0 (k + 1) c))
          ∗ (bigSepL (stepCopies k) fun i => slot c i (landed a0 c)) ∗ (bigSepL (stepCopies k) (spent .rs c)) ∗ owing c rest) -∗ run c p Q)
          -∗ run c (rsStep c (stepCopies k) p) Q) := by
  have hs := mem_stepCopies k hk
  unfold rsStep
  iintro ⟨#HK, ⟨Ht, Hw, Hf, Hn, Hs⟩, HO⟩ Hk
  iapply (wp_each (K := known a0 κ) (rsSend c) (fun i => iprop(tokens .rs c i ∗ accTile c (farT c i) (red a0 (stepOf i.2) c) ∗ ∃ f, slot (peer c (axis i.1 i.2)) i f)) (sent .rs c)
      (fun l => owing c (l.map (due .rs c) ++ rest)) Q _ (stepCopies k)
      fun i _ l' k' => send_rs_to a0 κ c _ i (rsDev_eq c i.1 i.2) _ _ _ _ (l'.map (due .rs c) ++ rest) (fun _ => k') Q) $$ [Ht Hf Hs HO]
  · isplitr; · iexact HK
    isplitr [HO]
    · rw [bigSepL_sep, bigSepL_sep]
      isplitl [Ht]; · iexact Ht
      isplitl [Hf]
      · iapply (bigSepL_mono fun i hi => Entails.of_eq (by rw [hs i hi])) $$ Hf
      iexact Hs
    iexact HO
  iintro ⟨Hc, HO⟩
  iapply (wp_each (K := known a0 κ) (rsFinish c) (fun i => iprop(sent .rs c i ∗ waits .rs c i ∗ accTile c (nearT c i) (red a0 (stepOf i.2) c))) (doneRs a0 c)
      (fun _ => owing c rest) Q p (stepCopies k)
      fun i hi _ k' => finish_rs a0 κ c i (by rw [level, hs i hi]; exact hr) k' Q) $$ [Hc Hw Hn HO]
  · isplitr; · iexact HK
    isplitr [HO]
    · rw [bigSepL_sep, bigSepL_sep]
      isplitl [Hc]; · iexact Hc
      isplitl [Hw]; · iexact Hw
      iapply (bigSepL_mono fun i hi => Entails.of_eq (by rw [hs i hi])) $$ Hn
    iexact HO
  iintro ⟨Hd, HO⟩
  iapply Hk
  unfold doneRs
  ihave Hd := (Entails.of_eq ((bigSepL_sep _ _ _).trans (congrArg _ ((bigSepL_sep _ _ _).trans (congrArg _ (bigSepL_sep _ _ _)))))) $$ Hd
  icases Hd with ⟨Hf, Hn, Hs, Hz⟩
  isplitl [Hf]
  · iapply (bigSepL_mono fun i hi => Entails.of_eq (by rw [hs i hi])) $$ Hf
  isplitl [Hn]
  · iapply (bigSepL_mono fun i hi => Entails.of_eq (by rw [hs i hi])) $$ Hn
  isplitl [Hs]; · iexact Hs
  isplitl [Hz] <;> iassumption

theorem step_ag (c : Dev nD) {k : ℕ} (hk : k < 3) {rest : List (Pay nD τ sig)} (hr : Above (7 - k) rest) (p : Body F PUnit) (Q : PUnit → sProp 𝕄) :
    iprop(known a0 κ ∗ ((bigSepL (stepCopies k) (tokens .ag c)) ∗ (bigSepL (stepCopies k) (waits .ag c)) ∗ (bigSepL (stepCopies k) fun i => outTile c (nearT c i) (out a0))
        ∗ (bigSepL (stepCopies k) fun i => iprop(∃ f, outTile (peer c (axis i.1 i.2)) (farT (peer c (axis i.1 i.2)) i) f)))
        ∗ owing c ((stepCopies k).map (due .ag c) ++ rest))
      ⊢ iprop((((bigSepL (stepCopies k) fun i => outTile c (nearT c i) (out a0)) ∗ (bigSepL (stepCopies k) fun i => outTile c (farT c i) (out a0))
          ∗ (bigSepL (stepCopies k) (spent .ag c)) ∗ owing c rest) -∗ run c p Q)
          -∗ run c (agStep c (stepCopies k) p) Q) := by
  have hs := mem_stepCopies k hk
  unfold agStep
  iintro ⟨#HK, ⟨Ht, Hw, Hf, Hs⟩, HO⟩ Hk
  iapply (wp_each (K := known a0 κ) (agSend c) (fun i => iprop(tokens .ag c i ∗ outTile c (nearT c i) (out a0) ∗ ∃ f, outTile (peer c (axis i.1 i.2)) (farT (peer c (axis i.1 i.2)) i) f)) (sent .ag c)
      (fun l => owing c (l.map (due .ag c) ++ rest)) Q _ (stepCopies k)
      fun i _ l' k' => send_ag_to a0 κ c _ i (agDev_eq c i.1 i.2) _ _ _ _ (l'.map (due .ag c) ++ rest) (fun _ => k') Q) $$ [Ht Hf Hs HO]
  · isplitr; · iexact HK
    isplitr [HO]
    · rw [bigSepL_sep, bigSepL_sep]
      isplitl [Ht]; · iexact Ht
      isplitl [Hf]; · iexact Hf
      iexact Hs
    iexact HO
  iintro ⟨Hc, HO⟩
  iapply (wp_each (K := known a0 κ) (agFinish c) (fun i => iprop(sent .ag c i ∗ waits .ag c i)) (doneAg a0 c)
      (fun _ => owing c rest) Q p (stepCopies k)
      fun i hi _ k' => finish_ag a0 κ c i (by rw [level, hs i hi]; exact hr) k' Q) $$ [Hc Hw HO]
  · isplitr; · iexact HK
    isplitr [HO]
    · rw [bigSepL_sep]
      isplitl [Hc] <;> iassumption
    iexact HO
  iintro ⟨Hd, HO⟩
  iapply Hk
  unfold doneAg
  ihave Hd := (Entails.of_eq ((bigSepL_sep _ _ _).trans (congrArg _ (bigSepL_sep _ _ _)))) $$ Hd
  icases Hd with ⟨Hf, Hn, Hz⟩
  isplitl [Hf]; · iexact Hf
  isplitl [Hn]; · iexact Hn
  isplitl [Hz] <;> iassumption

end Cert.Hypercube

end
-- ==== Proof.Body.lean ====
/-
The whole body on one device: the handshake, the contribution, the three steps of the reduction, the finished chunk published, the three steps
of the gathering phase.
-/
module

public import proofs.«01_k».proof.Proof.Steps

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (a0 : Dev nD → FVec F S1024x1024 .f32) (κ : GSem nD τ sig → ℕ)

/-! ## Whole buffers and their tiles -/

/-- A buffer whole on device `c`. -/
abbrev whole (c : Dev nD) (b : Ref sig .tc) (f : Buf (Elt F) ((c : Thread nD τ).loc b)) : sProp 𝕄 := ((c : Thread nD τ).loc b) ↦{fullShare} f

theorem acc_tiles (c : Dev nD) (f : FVec F S1024x1024 .f32) : whole c cc0_scratch0 f = bigSep Finset.univ fun p => accTile c p f := by
  have h := pointsTo_biUnion (Val := Elt F) (Ix := ℕ) (Name := ℕ) (U := UU) (Lvl := ℕ) (ℓ := (c : Thread nD τ).loc cc0_scratch0) (q := fullShare) (f := f) (Finset.univ : Finset (Fin 3 × Fin 8)) tileSet
    fun p hp q hq h => tile_disjoint hp hq h
  rw [tile_cover] at h
  exact h
theorem out_tiles (c : Dev nD) (f : FVec F S1024x1024 .f32) : whole c cc0_stg3_0 f = bigSep Finset.univ fun p => outTile c p f := by
  have h := pointsTo_biUnion (Val := Elt F) (Ix := ℕ) (Name := ℕ) (U := UU) (Lvl := ℕ) (ℓ := (c : Thread nD τ).loc cc0_stg3_0) (q := fullShare) (f := f) (Finset.univ : Finset (Fin 3 × Fin 8)) tileSet
    fun p hp q hq h => tile_disjoint hp hq h
  rw [tile_cover] at h
  exact h
theorem rsb_slots (c : Dev nD) (f : FVec F S7x128x1024 .f32) : whole c cc0_scratch1 f = bigSepL copies fun i => slot c i f := by
  have h := pointsTo_biUnion (Val := Elt F) (Ix := ℕ) (Name := ℕ) (U := UU) (Lvl := ℕ) (ℓ := (c : Thread nD τ).loc cc0_scratch1) (q := fullShare) (f := f) (Finset.univ : Finset Copy) slotSet
    fun p hp q hq h => slot_disjoint hp hq h
  rw [slot_cover] at h
  exact h.trans (bigSep_copies _)
/-- Tiles of any contents make a whole accumulator of some contents. -/
theorem acc_join (c : Dev nD) (f₀ : FVec F S1024x1024 .f32) :
    (bigSep Finset.univ fun p => iprop(∃ f : FVec F S1024x1024 .f32, accTile c p f)) ⊢ (iprop(∃ f : FVec F S1024x1024 .f32, whole c cc0_scratch0 f) : sProp 𝕄) := by
  haveI : Nonempty (FVec F S1024x1024 .f32) := ⟨f₀⟩
  have h2 (f : Fin 3 × Fin 8 → FVec F S1024x1024 .f32) : (bigSep Finset.univ fun p => accTile c p (f p)) ⊢ (iprop(∃ f : FVec F S1024x1024 .f32, whole c cc0_scratch0 f) : sProp 𝕄) := by
    have h := pointsTo_biUnion_join (Val := Elt F) (Ix := ℕ) (Name := ℕ) (U := UU) (Lvl := ℕ) (ℓ := (c : Thread nD τ).loc cc0_scratch0) (q := fullShare) (Finset.univ : Finset (Fin 3 × Fin 8)) tileSet f f₀
      fun p hp q hq h => tile_disjoint hp hq h
    rw [tile_cover] at h
    have h3 : iprop(∃ g : FVec F S1024x1024 .f32, ⌜∀ t ∈ Finset.univ, ∀ i ∈ tileSet t, g i = f t i⌝ ∗ whole c cc0_scratch0 g) ⊢ (iprop(∃ f : FVec F S1024x1024 .f32, whole c cc0_scratch0 f) : sProp 𝕄) := by
      iintro ⟨%g, -, H⟩
      iexists g
      iexact H
    exact BI.Entails.trans h h3
  refine BI.Entails.trans (bigSep_exists_pi Finset.univ fun p (f : FVec F S1024x1024 .f32) => accTile c p f) ?_
  have h4 : iprop(∃ f : Fin 3 × Fin 8 → FVec F S1024x1024 .f32, bigSep Finset.univ fun p => accTile c p (f p)) ⊢ (iprop(∃ f : FVec F S1024x1024 .f32, whole c cc0_scratch0 f) : sProp 𝕄) := by
    iintro ⟨%f, H⟩
    iapply (h2 f) $$ H
  exact h4

/-- The three tiles of a chunk are its rows. -/
theorem acc_rows (c : Dev nD) (x : Fin 8) (f : FVec F S1024x1024 .f32) : (bigSep Finset.univ fun π : Fin 3 => accTile c (π, x) f) = (((c : Thread nD τ).loc cc0_scratch0) ↦[rowSet x]{fullShare} f : sProp 𝕄) := by
  rw [← row_cover]
  exact (pointsTo_biUnion (Val := Elt F) (Ix := ℕ) (Name := ℕ) (U := UU) (Lvl := ℕ) (ℓ := (c : Thread nD τ).loc cc0_scratch0) (q := fullShare) (f := f) (Finset.univ : Finset (Fin 3)) (fun π => tileSet (π, x))
    fun p hp q hq h => row_disjoint x hp hq h).symm
theorem out_rows (c : Dev nD) (x : Fin 8) (f : FVec F S1024x1024 .f32) : (bigSep Finset.univ fun π : Fin 3 => outTile c (π, x) f) = (((c : Thread nD τ).loc cc0_stg3_0) ↦[rowSet x]{fullShare} f : sProp 𝕄) := by
  rw [← row_cover]
  exact (pointsTo_biUnion (Val := Elt F) (Ix := ℕ) (Name := ℕ) (U := UU) (Lvl := ℕ) (ℓ := (c : Thread nD τ).loc cc0_stg3_0) (q := fullShare) (f := f) (Finset.univ : Finset (Fin 3)) (fun π => tileSet (π, x))
    fun p hp q hq h => row_disjoint x hp hq h).symm

/-- The tiles still to be kept over the three steps, all together. -/
theorem tiles_steps (c : Dev nD) (Φ : Fin 3 × Fin 8 → sProp 𝕄) :
    bigSep Finset.univ Φ = iprop((bigSepL (stepCopies 0) fun i => Φ (farT c i)) ∗ (bigSepL (stepCopies 1) fun i => Φ (farT c i)) ∗ (bigSepL (stepCopies 2) fun i => Φ (farT c i))
      ∗ bigSepL (stepCopies 2) fun i => Φ (nearT c i)) := by
  rw [tiles_split c, near0_split, near1_split]

/-! ## The handshake -/

theorem signal_to (c n : Dev nD) (β : Fin 3) (hn : n = peer c β) (rest : List (Pay nD τ sig)) (k : PUnit → Body F PUnit) (Q : PUnit → sProp 𝕄) :
    iprop(known a0 κ ∗ (token (barCell (peer c β)) β ∗ bigSepL (axisCopies β) (room c)) ∗ owing c (barDue c β :: rest))
      ⊢ iprop((owing c rest -∗ run c (k ⟨⟩) Q) -∗ run c (.op (.semSignal (n : Thread nD τ) barS (1#32 : BitVec 32).toInt) k) Q) := by
  subst hn
  have hp : (sched a0).payload (barCell (peer c β)) 0 β = bigSepL (axisCopies β) (room c) := by
    show bigSepL (axisCopies β) (room (F := F) (peer (peer c β) β)) = _
    rw [peer_peer]
  unfold owing token
  iintro ⟨#HK, ⟨Ht, Hr⟩, ⟨%W, HO⟩⟩ Hk
  ihave #H1 := (known_inv a0 κ (peer c β, none)) $$ HK
  icases H1 with ⟨#Hi, #Hrd⟩
  iapply (Rounds.wp_signal 𝒱₀ ER (sched a0) (c : Thread nD τ) none (dst := (peer c β : Thread nD τ)) (κ := κ (kcell (peer c β, none)))
      (r := 0) (d := β) (bar_duty a0 (peer c β) β) (k' := 1) rfl 1 (tallyL rest) (add_comm _ _) (W := W)) $$ [Ht Hr HO] [Hk]
  · isplitr; · iexact Hi
    isplitl [HO]; · iexact HO
    isplitl [Ht]; · iexact Ht
    isplitl [Hr]; · rw [hp]; iexact Hr
    iexact Hrd
  iintro HO
  iapply Hk
  iexists W; iexact HO

/-- What is still owed in each step lies above the step's level. -/
theorem above_ag0 (c : Dev nD) : Above 6 ((stepCopies 0).map (due .ag c) ++ []) := above_append (above_ag c (k := 0) (by decide)) (above_nil _)
@[inherit_doc above_ag0] theorem above_ag1 (c : Dev nD) : Above 5 ((stepCopies 1).map (due .ag c) ++ ((stepCopies 0).map (due .ag c) ++ [])) :=
  above_append (above_ag c (k := 1) (by decide)) (above_mono (by decide) (above_ag0 c))
@[inherit_doc above_ag0] theorem above_ag2 (c : Dev nD) : Above 4 ((stepCopies 2).map (due .ag c) ++ ((stepCopies 1).map (due .ag c) ++ ((stepCopies 0).map (due .ag c) ++ []))) :=
  above_append (above_ag c (k := 2) (by decide)) (above_mono (by decide) (above_ag1 c))
@[inherit_doc above_ag0] theorem above_rs1 (c : Dev nD) :
    Above 3 ((stepCopies 2).map (due .rs c) ++ ((stepCopies 2).map (due .ag c) ++ ((stepCopies 1).map (due .ag c) ++ ((stepCopies 0).map (due .ag c) ++ [])))) :=
  above_append (above_rs c (k := 2) (by decide)) (above_mono (by decide) (above_ag2 c))
@[inherit_doc above_ag0] theorem above_rs0 (c : Dev nD) :
    Above 2 ((stepCopies 1).map (due .rs c) ++ ((stepCopies 2).map (due .rs c) ++ ((stepCopies 2).map (due .ag c) ++ ((stepCopies 1).map (due .ag c) ++ ((stepCopies 0).map (due .ag c) ++ []))))) :=
  above_append (above_rs c (k := 1) (by decide)) (above_mono (by decide) (above_rs1 c))
@[inherit_doc above_ag0] theorem above_copies (c : Dev nD) : Above 1 (copyDues c) :=
  above_append (above_rs c (k := 0) (by decide)) (above_mono (by decide) (above_rs0 c))

theorem wp_handshake (c : Dev nD) (k : Body F PUnit) (Q : PUnit → sProp 𝕄) :
    iprop(known a0 κ ∗ (token (barCell (peer c 0)) 0 ∗ token (barCell (peer c 1)) 1 ∗ token (barCell (peer c 2)) 2) ∗ (cred (tallyAt (barCell c) 1 3) ∗ fresh (barCell c))
        ∗ bigSepL copies (room c) ∗ owing c (dues c))
      ⊢ iprop(((bigSepL copies (fun i => room (peer c (axis i.1 i.2)) i) ∗ semVal (barCell c) 0 ∗ owing c (copyDues c)) -∗ run c k Q) -∗ run c (handshake c >>= fun _ => k) Q) := by
  have hj (β : Fin 3) : barPay (F := F) c β ⊢ bigSepL (axisCopies β) fun i => room (peer c (axis i.1 i.2)) i :=
    bigSepL_mono fun i hi => Entails.of_eq (by rw [mem_axisCopies hi])
  rw [copies_split, copies_split]
  unfold dues
  iintro ⟨#HK, ⟨Ht0, Ht1, Ht2⟩, ⟨Hc, Hf⟩, ⟨Hr0, Hr1, Hr2⟩, HO⟩ Hk
  simp only [handshake, semSignalWord, semWaitWord, Prog.bind_op, Prog.bind_ret]
  iapply (signal_to a0 κ c _ 0 (signalDev_eq c 0)) $$ [Ht0 Hr0 HO]
  · isplitr; · iexact HK
    isplitr [HO]
    · isplitl [Ht0] <;> iassumption
    iexact HO
  iintro HO
  iapply (signal_to a0 κ c _ 1 (signalDev_eq c 1)) $$ [Ht1 Hr1 HO]
  · isplitr; · iexact HK
    isplitr [HO]
    · isplitl [Ht1] <;> iassumption
    iexact HO
  iintro HO
  iapply (signal_to a0 κ c _ 2 (signalDev_eq c 2)) $$ [Ht2 Hr2 HO]
  · isplitr; · iexact HK
    isplitr [HO]
    · isplitl [Ht2] <;> iassumption
    iexact HO
  iintro HO
  unfold owing fresh
  icases HO with ⟨%W, HO⟩
  ihave #H1 := (known_inv a0 κ (c, none)) $$ HK
  icases H1 with ⟨#Hi, -⟩
  ihave #Hl := (known_lev a0 κ) $$ HK
  iapply (Rounds.wp_wait_rest_token 𝒱₀ ER (sched a0) (c : Thread nD τ) none (κ := κ (kcell (c, none))) (wpE_semWait_eq 𝒱₀ (c : Thread nD τ) none Set.univ) (Set.mem_univ _)
      1 (O := tallyL (copyDues c)) (W := W) (R := 0) (m := 0) (T := ∅) (by rw [bar_expect]; decide)) $$ [Hc HO Hf]
  · isplitr; · iexact Hi
    isplitl [Hc]; · iexact Hc
    isplitl [HO]; · iexact HO
    isplitr; · iapply (mayWait (by decide) c _ (above_copies c)) $$ Hl
    iexact Hf
  iintro ⟨HO, Hf, -, Hp⟩
  ihave Hp := (Entails.of_eq (bar_rest a0 c)) $$ Hp
  icases Hp with ⟨Hp0, Hp1, Hp2⟩
  imod (Rounds.cell_close ER (sched a0) (Set.mem_univ (κ (kcell (c, none)))) (fun h => h) (R := 0 + 1) (later a0 _)) $$ [Hf] with Hz
  · isplitr; · iexact Hi
    iexact Hf
  iapply Hk
  isplitl [Hp0 Hp1 Hp2]
  · isplitl [Hp0]; · iapply (hj 0) $$ Hp0
    isplitl [Hp1]; · iapply (hj 1) $$ Hp1
    iapply (hj 2) $$ Hp2
  isplitl [Hz]; · iexact Hz
  iexists _; iexact HO

/-! ## The contribution -/

/-- One expert's matrix of the four held. -/
def slab (e : Fin 4) (w : FVec F S4x512x1024 .f32) : Vec F S1x512x1024 .f32 :=
  wM.view.readAt (Elt F) (Rect.unit (s := S4x512x1024) ![e.val, 0, 0] S1x512x1024.size (slab_inb e)).toLoadRect w
/-- A device's contribution from what it holds. -/
def contrib (c : Dev nD) (x : FVec F S1024x512 .f32) (i : IVec S1024x1 32) (w : FVec F S4x512x1024 .f32) : FVec F S1024x1024 .f32 :=
  contribution c i x (slab 0 w) i x (slab 1 w) i x (slab 2 w) i x (slab 3 w)

theorem hz : (![0, 0] : Fin 2 → ℕ) = fun _ => 0 := funext fun a => by fin_cases a <;> rfl

theorem read_x (f : FVec F S1024x512 .f32) : xM.view.readAt (Elt F) (Rect.unit (s := S1024x512) ![0, 0] S1024x512.size inb_S1024x512_S1024x512_0_0).toLoadRect f = f :=
  Memref.readAt_unit_zero (Elt F) cc0_stg0_0 hz _ f
theorem read_idx (f : IVec S1024x1 32) : idxM.view.readAt (Elt F) (Rect.unit (s := S1024x1) ![0, 0] S1024x1.size inb_S1024x1_S1024x1_0_0).toLoadRect f = f :=
  Memref.readAt_unit_zero (Elt F) cc0_stg1_0 hz _ f
theorem write_acc (f w : FVec F S1024x1024 .f32) :
    (accM.access (Rect.unit (s := S1024x1024) ![0, 0] S1024x1024.size inb_S1024x1024_S1024x1024_0_0)).write (Elt F) f w Finset.univ = w :=
  Memref.write_access_unit_zero_univ (Elt F) cc0_scratch0 hz _ f w

section Loads

variable (c : Dev nD)

theorem wp_idx (Q : PUnit → sProp 𝕄) (f : IVec S1024x1 32) (k : Vec F S1024x1 .i32 → Body F PUnit) : (whole c cc0_stg1_0 f) ⊢ iprop((whole c cc0_stg1_0 f -∗ run c (k f) Q) -∗ run c (loadIdx >>= k) Q) := by
  have h : (whole c cc0_stg1_0 f) ⊢ iprop((whole c cc0_stg1_0 f -∗ run c (k (idxM.view.readAt (Elt F) (Rect.unit (s := S1024x1) ![0, 0] S1024x1.size inb_S1024x1_S1024x1_0_0).toLoadRect f)) Q)
      -∗ run c (loadIdx >>= k) Q) := wp_load (defs := defs₀ (F := F)) 𝒱₀ (c : Thread nD τ) none (Q := Q) (k := k) Set.univ (m := idxM) (S := Finset.univ) (q := fullShare) (f := f)
      (r := (Rect.unit (s := S1024x1) ![0, 0] S1024x1.size inb_S1024x1_S1024x1_0_0).toLoadRect) (hl := View.loadsAt_vmem h_S1024x1) (Finset.subset_univ _)
  rw [read_idx] at h
  exact h
theorem wp_x (Q : PUnit → sProp 𝕄) (f : FVec F S1024x512 .f32) (k : Vec F S1024x512 .f32 → Body F PUnit) : (whole c cc0_stg0_0 f) ⊢ iprop((whole c cc0_stg0_0 f -∗ run c (k f) Q) -∗ run c (loadX >>= k) Q) := by
  have h : (whole c cc0_stg0_0 f) ⊢ iprop((whole c cc0_stg0_0 f -∗ run c (k (xM.view.readAt (Elt F) (Rect.unit (s := S1024x512) ![0, 0] S1024x512.size inb_S1024x512_S1024x512_0_0).toLoadRect f)) Q)
      -∗ run c (loadX >>= k) Q) := wp_load (defs := defs₀ (F := F)) 𝒱₀ (c : Thread nD τ) none (Q := Q) (k := k) Set.univ (m := xM) (S := Finset.univ) (q := fullShare) (f := f)
      (r := (Rect.unit (s := S1024x512) ![0, 0] S1024x512.size inb_S1024x512_S1024x512_0_0).toLoadRect) (hl := View.loadsAt_vmem h_S1024x512) (Finset.subset_univ _)
  rw [read_x] at h
  exact h
theorem wp_w (Q : PUnit → sProp 𝕄) (e : Fin 4) (f : FVec F S4x512x1024 .f32) (k : Vec F S1x512x1024 .f32 → Body F PUnit) :
    (whole c cc0_stg2_0 f) ⊢ iprop((whole c cc0_stg2_0 f -∗ run c (k (slab e f)) Q) -∗ run c (loadW e >>= k) Q) :=
  wp_load (defs := defs₀ (F := F)) 𝒱₀ (c : Thread nD τ) none (Q := Q) (k := k) Set.univ (m := wM) (S := Finset.univ) (q := fullShare) (f := f)
      (r := (Rect.unit (s := S4x512x1024) ![e.val, 0, 0] S1x512x1024.size (slab_inb e)).toLoadRect) (hl := View.loadsAt_vmem h_S1x512x1024) (Finset.subset_univ _)

theorem wp_contribute (Q : PUnit → sProp 𝕄) (x : FVec F S1024x512 .f32) (i : IVec S1024x1 32) (w : FVec F S4x512x1024 .f32) (f : FVec F S1024x1024 .f32) (k : Body F PUnit) :
    iprop(whole c cc0_stg0_0 x ∗ whole c cc0_stg1_0 i ∗ whole c cc0_stg2_0 w ∗ whole c cc0_scratch0 f)
      ⊢ iprop(((whole c cc0_stg0_0 x ∗ whole c cc0_stg1_0 i ∗ whole c cc0_stg2_0 w ∗ whole c cc0_scratch0 (contrib c x i w)) -∗ run c k Q) -∗ run c (contribute c >>= fun _ => k) Q) := by
  iintro ⟨Hx, Hi, Hw, Ha⟩ Hk
  unfold contribute
  simp only [bind_assoc]
  iapply (wp_idx c Q i) $$ Hi; iintro Hi
  iapply (wp_x c Q x) $$ Hx; iintro Hx
  iapply (wp_w c Q 0 w) $$ Hw; iintro Hw
  iapply (wp_idx c Q i) $$ Hi; iintro Hi
  iapply (wp_x c Q x) $$ Hx; iintro Hx
  iapply (wp_w c Q 1 w) $$ Hw; iintro Hw
  iapply (wp_idx c Q i) $$ Hi; iintro Hi
  iapply (wp_x c Q x) $$ Hx; iintro Hx
  iapply (wp_w c Q 2 w) $$ Hw; iintro Hw
  iapply (wp_idx c Q i) $$ Hi; iintro Hi
  iapply (wp_x c Q x) $$ Hx; iintro Hx
  iapply (wp_w c Q 3 w) $$ Hw; iintro Hw
  simp only [Prog.lift, Prog.bind_op, Prog.bind_ret]
  iapply (wp_load 𝒱₀ (c : Thread nD τ) none Set.univ (m := accM) (Finset.subset_univ _)) $$ Ha; iintro Ha
  iapply (wp_store 𝒱₀ (c : Thread nD τ) none Set.univ (m := accM) (r := Rect.unit (s := S1024x1024) ![0, 0] S1024x1024.size inb_S1024x1024_S1024x1024_0_0) (Mk := Finset.univ) (Finset.subset_univ _)) $$ Ha; iintro Ha
  rw [write_acc]
  iapply Hk
  isplitl [Hx]; · iexact Hx
  isplitl [Hi]; · iexact Hi
  isplitl [Hw]; · iexact Hw
  iexact Ha

end Loads

/-! ## The finished chunk published -/

theorem setOn_own (c : Dev nD) : accM.view.setOn (ownRect c).toLoadRect.set = rowSet (chunkOf c) :=
  ((View.set_slice (v := accM.view) (ownRect c)).symm.trans (View.set_slice_whole cc0_scratch0 _)).trans (ownRect_set c)
theorem setOn_ownOut (c : Dev nD) : outM.view.setOn (ownRect c).toLoadRect.set = rowSet (chunkOf c) :=
  ((View.set_slice (v := outM.view) (ownRect c)).symm.trans (View.set_slice_whole cc0_stg3_0 _)).trans (ownRect_set c)
theorem set_ownOut (c : Dev nD) : (outM.access (ownRect c)).set = rowSet (chunkOf c) := (View.set_slice_whole _ _).trans (ownRect_set c)

theorem published (c : Dev nD) (f : FVec F S1024x1024 .f32) :
    (((c : Thread nD τ).loc cc0_stg3_0) ↦[rowSet (chunkOf c)]{fullShare} ((outM.access (ownRect c)).write (Elt F) f (accM.view.readAt (Elt F) (ownRect c).toLoadRect (red a0 3 c)) Finset.univ))
      ⊢ (((c : Thread nD τ).loc cc0_stg3_0) ↦[rowSet (chunkOf c)]{fullShare} (out a0) : sProp 𝕄) := pts_congr fun j hj => publish_own a0 c f j hj

theorem wp_publish (c : Dev nD) (f : FVec F S1024x1024 .f32) (k : Body F PUnit) (Q : PUnit → sProp 𝕄) :
    iprop((bigSepL (stepCopies 2) fun i => accTile c (nearT c i) (red a0 3 c)) ∗ bigSepL (stepCopies 2) fun i => outTile c (nearT c i) f)
      ⊢ iprop((((bigSepL (stepCopies 2) fun i => accTile c (nearT c i) (red a0 3 c)) ∗ bigSepL (stepCopies 2) fun i => outTile c (nearT c i) (out a0)) -∗ run c k Q)
          -∗ run c (publish c >>= fun _ => k) Q) := by
  rw [near2_own c fun p => accTile c p (red a0 3 c), near2_own c fun p => outTile c p f, near2_own c fun p => outTile c p (out a0), acc_rows, out_rows, out_rows]
  iintro ⟨Ha, Ho⟩ Hk
  simp only [publish, Prog.lift, Prog.bind_op, Prog.bind_ret]
  iapply (wp_load 𝒱₀ (c : Thread nD τ) none Set.univ (m := accM) (S := rowSet (chunkOf c)) (setOn_own c).subset) $$ Ha; iintro Ha
  iapply (wp_load 𝒱₀ (c : Thread nD τ) none Set.univ (m := outM) (S := rowSet (chunkOf c)) (setOn_ownOut c).subset) $$ Ho; iintro Ho
  iapply (wp_store 𝒱₀ (c : Thread nD τ) none Set.univ (m := outM) (r := ownRect c) (Mk := Finset.univ) (S := rowSet (chunkOf c)) (set_ownOut c).subset) $$ Ho; iintro Ho
  iapply Hk
  isplitl [Ha]; · iexact Ha
  iapply (published a0 c f) $$ Ho

/-! ## The walk -/

/-- A device's rights at the start: to pay what it owes its partners, and to wait for what it is owed. -/
def rights (c : Dev nD) : sProp 𝕄 :=
  iprop((token (barCell (peer c 0)) 0 ∗ token (barCell (peer c 1)) 1 ∗ token (barCell (peer c 2)) 2) ∗ (cred (tallyAt (barCell c) 1 3) ∗ fresh (barCell c))
    ∗ bigSepL copies (tokens .rs c) ∗ bigSepL copies (tokens .ag c) ∗ bigSepL copies (waits .rs c) ∗ bigSepL copies (waits .ag c))

/-- The counters of a device's semaphores, all zero, at the end. -/
def counters (c : Dev nD) : sProp 𝕄 := iprop(semVal (barCell c) 0 ∗ bigSepL copies (spent .rs c) ∗ bigSepL copies (spent .ag c))

theorem acc_any (c : Dev nD) {I : Type} (l : List I) (t : I → Fin 3 × Fin 8) (f : FVec F S1024x1024 .f32) :
    (bigSepL l fun i => accTile c (t i) f) ⊢ bigSepL l fun i => iprop(∃ f, accTile c (t i) f) :=
  bigSepL_mono fun i _ => by iintro H; iexists f; iexact H

theorem rooms (c : Dev nD) (f : FVec F S1024x1024 .f32) (g : FVec F S7x128x1024 .f32) :
    iprop((bigSepL copies fun i => slot c i g) ∗ bigSepL copies fun i => outTile c (farT c i) f) ⊢ bigSepL copies (room c) := by
  rw [← bigSepL_sep]
  refine bigSepL_mono fun i _ => ?_
  unfold room
  iintro ⟨H1, H2⟩
  isplitl [H1]
  · iexists g; iexact H1
  · iexists f; iexact H2

theorem rooms_split (c : Dev nD) : (bigSepL copies fun i => room (F := F) (peer c (axis i.1 i.2)) i)
    = iprop((bigSepL copies fun i => iprop(∃ f, slot (peer c (axis i.1 i.2)) i f)) ∗ bigSepL copies fun i => iprop(∃ f, outTile (peer c (axis i.1 i.2)) (farT (peer c (axis i.1 i.2)) i) f)) :=
  bigSepL_sep _ _ _

set_option maxHeartbeats 1000000 in
/-- From its inputs, its rights and any contents of its other buffers, a device ends with the result, its inputs as they were, nothing owed and every counter zero. -/
theorem wp_walk (c : Dev nD) (x : FVec F S1024x512 .f32) (i : IVec S1024x1 32) (w : FVec F S4x512x1024 .f32) (ha : a0 c = contrib c x i w) (Q : PUnit → sProp 𝕄) :
    iprop(known a0 κ ∗ rights c ∗ (whole c cc0_stg0_0 x ∗ whole c cc0_stg1_0 i ∗ whole c cc0_stg2_0 w) ∗ (∃ f, whole c cc0_stg3_0 f) ∗ (∃ f, whole c cc0_scratch0 f) ∗ (∃ f, whole c cc0_scratch1 f)
        ∗ owing c (dues c))
      ⊢ iprop((((whole c cc0_stg0_0 x ∗ whole c cc0_stg1_0 i ∗ whole c cc0_stg2_0 w) ∗ whole c cc0_stg3_0 (out a0) ∗ (∃ f, whole c cc0_scratch0 f) ∗ (∃ f, whole c cc0_scratch1 f)
          ∗ counters c ∗ owing c []) -∗ Q ⟨⟩) -∗ run c (walk c) Q) := by
  unfold rights counters
  iintro ⟨#HK, ⟨Ht, Hb, Htr, Hta, Hwr, Hwa⟩, ⟨Hx, Hi, Hw⟩, ⟨%f3, Ho⟩, ⟨%f0, Ha⟩, ⟨%f1, Hs⟩, HO⟩ Hk
  ihave Ho := (Entails.of_eq ((out_tiles c f3).trans (tiles_steps c _))) $$ Ho
  icases Ho with ⟨Ho0, Ho1, Ho2, Hon⟩
  ihave Hs := (Entails.of_eq (rsb_slots c f1)) $$ Hs
  unfold walk
  iapply (wp_handshake a0 κ c) $$ [Ht Hb Hs Ho0 Ho1 Ho2 HO]
  · isplitr; · iexact HK
    isplitl [Ht]; · iexact Ht
    isplitl [Hb]; · iexact Hb
    isplitr [HO]
    · iapply (rooms c f3 f1) $$ [Hs Ho0 Ho1 Ho2]
      isplitl [Hs]; · iexact Hs
      iapply (Entails.of_eq (copies_steps _).symm)
      isplitl [Ho0]; · iexact Ho0
      isplitl [Ho1]; · iexact Ho1
      iexact Ho2
    iexact HO
  iintro ⟨Hr, Hzb, HO⟩
  iapply (wp_contribute c Q x i w f0) $$ [Hx Hi Hw Ha]
  · isplitl [Hx]; · iexact Hx
    isplitl [Hi]; · iexact Hi
    isplitl [Hw] <;> iassumption
  iintro ⟨Hx, Hi, Hw, Ha⟩
  rw [← ha]
  ihave Ha := (Entails.of_eq ((acc_tiles c (a0 c)).trans (tiles_split c _))) $$ Ha
  icases Ha with ⟨Haf0, Han0⟩
  ihave Hr := (Entails.of_eq (rooms_split c)) $$ Hr
  icases Hr with ⟨Hrs, Hro⟩
  ihave Hrs := (Entails.of_eq (copies_steps _)) $$ Hrs
  icases Hrs with ⟨Hrs0, Hrs1, Hrs2⟩
  ihave Hro := (Entails.of_eq (copies_steps _)) $$ Hro
  icases Hro with ⟨Hro0, Hro1, Hro2⟩
  ihave Htr := (Entails.of_eq (copies_steps _)) $$ Htr
  icases Htr with ⟨Htr0, Htr1, Htr2⟩
  ihave Hta := (Entails.of_eq (copies_steps _)) $$ Hta
  icases Hta with ⟨Hta0, Hta1, Hta2⟩
  ihave Hwr := (Entails.of_eq (copies_steps _)) $$ Hwr
  icases Hwr with ⟨Hwr0, Hwr1, Hwr2⟩
  ihave Hwa := (Entails.of_eq (copies_steps _)) $$ Hwa
  icases Hwa with ⟨Hwa0, Hwa1, Hwa2⟩
  unfold copyDues
  iapply (step_rs a0 κ c (k := 0) (by decide) (above_rs0 c)) $$ [Htr0 Hwr0 Haf0 Han0 Hrs0 HO]
  · isplitr; · iexact HK
    isplitr [HO]
    · isplitl [Htr0]; · iexact Htr0
      isplitl [Hwr0]; · iexact Hwr0
      isplitl [Haf0]; · iexact Haf0
      isplitl [Han0]; · iexact Han0
      iexact Hrs0
    iexact HO
  iintro ⟨Haf0, Han0, Hs0, Hzr0, HO⟩
  ihave Han0 := (Entails.of_eq (near0_split c fun p => accTile c p (red a0 1 c))) $$ Han0
  icases Han0 with ⟨Haf1, Han1⟩
  iapply (step_rs a0 κ c (k := 1) (by decide) (above_rs1 c)) $$ [Htr1 Hwr1 Haf1 Han1 Hrs1 HO]
  · isplitr; · iexact HK
    isplitr [HO]
    · isplitl [Htr1]; · iexact Htr1
      isplitl [Hwr1]; · iexact Hwr1
      isplitl [Haf1]; · iexact Haf1
      isplitl [Han1] <;> iassumption
    iexact HO
  iintro ⟨Haf1, Han1, Hs1, Hzr1, HO⟩
  ihave Han1 := (Entails.of_eq (near1_split c fun p => accTile c p (red a0 2 c))) $$ Han1
  icases Han1 with ⟨Haf2, Han2⟩
  iapply (step_rs a0 κ c (k := 2) (by decide) (above_ag2 c)) $$ [Htr2 Hwr2 Haf2 Han2 Hrs2 HO]
  · isplitr; · iexact HK
    isplitr [HO]
    · isplitl [Htr2]; · iexact Htr2
      isplitl [Hwr2]; · iexact Hwr2
      isplitl [Haf2]; · iexact Haf2
      isplitl [Han2] <;> iassumption
    iexact HO
  iintro ⟨Haf2, Han2, Hs2, Hzr2, HO⟩
  iapply (wp_publish a0 c f3) $$ [Han2 Hon]
  · isplitl [Han2] <;> iassumption
  iintro ⟨Han2, Hon⟩
  iapply (step_ag a0 κ c (k := 2) (by decide) (above_ag1 c)) $$ [Hta2 Hwa2 Hon Hro2 HO]
  · isplitr; · iexact HK
    isplitr [HO]
    · isplitl [Hta2]; · iexact Hta2
      isplitl [Hwa2]; · iexact Hwa2
      isplitl [Hon] <;> iassumption
    iexact HO
  iintro ⟨Hon, Ho2, Hza2, HO⟩
  ihave Hon := (Entails.of_eq (near1_split c fun p => outTile c p (out a0)).symm) $$ [Hon Ho2]
  · isplitl [Ho2] <;> iassumption
  iapply (step_ag a0 κ c (k := 1) (by decide) (above_ag0 c)) $$ [Hta1 Hwa1 Hon Hro1 HO]
  · isplitr; · iexact HK
    isplitr [HO]
    · isplitl [Hta1]; · iexact Hta1
      isplitl [Hwa1]; · iexact Hwa1
      isplitl [Hon] <;> iassumption
    iexact HO
  iintro ⟨Hon, Ho1, Hza1, HO⟩
  ihave Hon := (Entails.of_eq (near0_split c fun p => outTile c p (out a0)).symm) $$ [Hon Ho1]
  · isplitl [Ho1] <;> iassumption
  iapply (step_ag a0 κ c (k := 0) (by decide) (above_nil _)) $$ [Hta0 Hwa0 Hon Hro0 HO]
  · isplitr; · iexact HK
    isplitr [HO]
    · isplitl [Hta0]; · iexact Hta0
      isplitl [Hwa0]; · iexact Hwa0
      isplitl [Hon] <;> iassumption
    iexact HO
  iintro ⟨Hon, Ho0, Hza0, HO⟩
  unfold run
  rw [Prog.pure_eq_ret, wp_ret]
  imodintro
  iapply Hk
  isplitl [Hx Hi Hw]
  · isplitl [Hx]; · iexact Hx
    isplitl [Hi] <;> iassumption
  isplitl [Hon Ho0]
  · iapply (Entails.of_eq ((out_tiles c (out a0)).trans (tiles_split c _)).symm)
    isplitl [Ho0] <;> iassumption
  isplitl [Haf0 Haf1 Haf2 Han2]
  · iapply (acc_join c (a0 c))
    iapply (Entails.of_eq (tiles_steps c _).symm)
    isplitl [Haf0]; · iapply (acc_any c (stepCopies 0) (farT c) _) $$ Haf0
    isplitl [Haf1]; · iapply (acc_any c (stepCopies 1) (farT c) _) $$ Haf1
    isplitl [Haf2]; · iapply (acc_any c (stepCopies 2) (farT c) _) $$ Haf2
    iapply (acc_any c (stepCopies 2) (nearT c) _) $$ Han2
  isplitl [Hs0 Hs1 Hs2]
  · iexists (landed a0 c)
    iapply (Entails.of_eq ((rsb_slots c (landed a0 c)).trans (copies_steps _)).symm)
    isplitl [Hs0]; · iexact Hs0
    isplitl [Hs1] <;> iassumption
  isplitr [HO]
  · isplitl [Hzb]; · iexact Hzb
    isplitl [Hzr0 Hzr1 Hzr2]
    · iapply (Entails.of_eq (copies_steps _).symm)
      isplitl [Hzr0]; · iexact Hzr0
      isplitl [Hzr1] <;> iassumption
    · iapply (Entails.of_eq (copies_steps _).symm)
      isplitl [Hza0]; · iexact Hza0
      isplitl [Hza1] <;> iassumption
  iexact HO

end Cert.Hypercube

end
-- ==== Proof.Deal.lean ====
/-
What each device is dealt at launch: its own counters become its cells, and it gets the tokens of the duties it pays itself — a barrier signal at
each partner, and for every copy the send at home and the arrival at the partner.
-/
module

public import proofs.«01_k».proof.Proof.Body

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (a0 : Dev nD → FVec F S1024x1024 .f32)

/-! ## Cells and sites, enumerated -/

omit [FloatOps F] in
/-- All cells are each device's cells. -/
theorem by_device (Φ : GSem nD τ sig → sProp 𝕄) : bigSep cells Φ = bigSep Finset.univ fun c : Dev nD => bigSep Finset.univ fun k : Option Site => Φ (kcell (c, k)) := by
  unfold cells; rw [bigSep_map, bigSep_univ_prod]; rfl

omit [FloatOps F] in
/-- All sites are those of the two phases and the two ends of a copy. -/
theorem by_site (Φ : Site → sProp 𝕄) : bigSep Finset.univ Φ
    = iprop(((bigSepL copies fun i => Φ (.rs, .send, i)) ∗ bigSepL copies fun i => Φ (.rs, .recv, i))
        ∗ (bigSepL copies fun i => Φ (.ag, .send, i)) ∗ bigSepL copies fun i => Φ (.ag, .recv, i)) := by
  rw [bigSep_univ_prod, bigSep_univ_eq_bigSepL [Ph.rs, Ph.ag] (by decide) (by decide)]
  have h (ph : Ph) : (bigSep Finset.univ fun b : End × Copy => Φ (ph, b)) = iprop((bigSepL copies fun i => Φ (ph, .send, i)) ∗ bigSepL copies fun i => Φ (ph, .recv, i)) := by
    rw [bigSep_univ_prod, bigSep_univ_eq_bigSepL [End.send, End.recv] (by decide) (by decide)]
    exact congrArg₂ _ (bigSep_copies fun i => Φ (ph, .send, i)) (bigSep_copies fun i => Φ (ph, .recv, i))
  exact congrArg₂ _ (h .rs) (h .ag)

omit [FloatOps F] in
/-- A device's cells are its barrier and its sites. -/
theorem by_cell (Φ : Option Site → sProp 𝕄) : bigSep Finset.univ Φ = iprop(Φ none ∗ bigSep Finset.univ fun s : Site => Φ (some s)) := by
  have h : (bigSep Finset.univ fun _ : PUnit.{1} => Φ none) = Φ none := bigSep_singleton
  rw [bigSep_univ_equiv (Equiv.optionEquivSumPUnit.{0} Site).symm, bigSep_univ_sum]
  exact (congrArg (BI.sep _) h).trans (equiv_iff.mp ⟨BI.sep_comm, BI.sep_comm⟩)

/-! ## The duties, by who pays them -/

/-- A duty that a device pays: the signal to its partner along an axis, or one end of a copy it makes. -/
abbrev Duty : Type := Fin 3 ⊕ Site
/-- Where device `c` pays it. -/
def payee (c : Dev nD) : Duty → Dev nD
  | .inl β => peer c β
  | .inr (_, .send, _) => c
  | .inr (_, .recv, i) => peer c (axis i.1 i.2)
@[inherit_doc payee] def duty (x : Dev nD × Duty) : GSem nD τ sig × ℕ × Fin 3 :=
  match x.2 with
  | .inl β => (kcell (payee x.1 (.inl β), none), 0, β)
  | .inr s => (kcell (payee x.1 (.inr s), some s), 0, 0)

theorem payee_injective (x : Duty) : Function.Injective fun c => payee c x := by
  rcases x with β | ⟨ph, _ | _, i⟩ <;> intro c c' h
  · exact (peerEquiv β).injective h
  · exact h
  · exact (peerEquiv (axis i.1 i.2)).injective h

theorem duty_injective : Function.Injective duty := by
  rintro ⟨c, β | s⟩ ⟨c', β' | s'⟩ h
  · obtain ⟨h1, h2⟩ := Prod.mk.inj h
    obtain rfl : β = β' := (Prod.mk.inj h2).2
    exact congrArg (·, Sum.inl β) (payee_injective (.inl β) (congrArg Prod.fst (kcell_injective h1)))
  · exact nomatch congrArg Prod.snd (kcell_injective (Prod.mk.inj h).1)
  · exact nomatch congrArg Prod.snd (kcell_injective (Prod.mk.inj h).1)
  · have h1 := kcell_injective (Prod.mk.inj h).1
    obtain rfl : s = s' := Option.some.inj (congrArg Prod.snd h1)
    exact congrArg (·, Sum.inr s) (payee_injective (.inr s) (congrArg Prod.fst h1))

def duties : Finset (GSem nD τ sig × ℕ × Fin 3) := Finset.univ.map ⟨duty, duty_injective⟩

/-- The tokens of the duties device `c` pays. -/
def pays (c : Dev nD) : sProp 𝕄 :=
  iprop((token (barCell (peer c 0)) 0 ∗ token (barCell (peer c 1)) 1 ∗ token (barCell (peer c 2)) 2) ∗ bigSepL copies (tokens .rs c) ∗ bigSepL copies (tokens .ag c))

omit [FloatOps F] in
theorem by_payer : bigSep duties (fun x => (dutyTok ER x.1 x.2.1 x.2.2 : sProp 𝕄)) = bigSep Finset.univ fun c : Dev nD => pays c := by
  unfold duties
  rw [bigSep_map, bigSep_univ_prod]
  refine bigSep_congr fun c _ => ?_
  unfold pays tokens
  rw [bigSepL_sep, bigSepL_sep, bigSep_univ_sum, bigSep_univ_eq_bigSepL [(0 : Fin 3), 1, 2] (by decide) (by decide), by_site]
  rfl

/-! ## Cells opened -/

/-- What is dealt to device `c` before the counters: its cells' states and positions, and the tokens of the duties it pays. -/
def dealt (c : Dev nD) : sProp 𝕄 :=
  iprop((bigSep Finset.univ fun k : Option Site => roundState ER (sched a0) (kcell (c, k)) 0) ∗ (bigSep Finset.univ fun k : Option Site => reached ER (kcell (c, k)) 0)
    ∗ (bigSep Finset.univ fun k : Option Site => fresh (kcell (c, k))) ∗ pays c)

theorem deal : BI.own (ER (initOf cells duties)) ⊢ (|==> bigSep Finset.univ (dealt a0) : sProp 𝕄) := by
  iintro HX
  imod (Rounds.fund ER (sched a0) cells duties) $$ HX with ⟨Hst, Hr, Hat, Htok⟩
  imodintro
  ihave Hst' := (Entails.of_eq (by_device fun g => roundState ER (sched a0) g 0)) $$ Hst
  ihave Hat' := (Entails.of_eq (by_device fun g => atPos ER g 0 ∅ 0)) $$ Hat
  ihave Hr' := (Entails.of_eq (by_device fun g => reached ER g 0)) $$ Hr
  ihave Htok' := (Entails.of_eq by_payer) $$ Htok
  unfold dealt fresh; simp only [bigSep_sep']
  isplitl [Hst']; · iexact Hst'
  isplitl [Hr']; · iexact Hr'
  isplitl [Hat']; · iexact Hat'
  iexact Htok'

/-- The kernel's own semaphores. -/
abbrev osem (s : Site) : SemLoc sig := .dma (siteSem s)

omit [FloatOps F] in
/-- A device's counters are its cells'. -/
theorem sems_eq (c : Dev nD) :
    iprop(Pipeline.ownSems0 (Ix := ℕ) (Name := ℕ) (U := UU) (Lvl := ℕ) (Val := Elt F) (τ := τ) osem c ∗ unscopedSems0 c)
      ⊣⊢ (bigSep Finset.univ fun k : Option Site => semVal (kcell (c, k)) 0 : sProp 𝕄) := by
  have h : (unscopedSems0 c : sProp 𝕄) = semVal (barCell c) 0 := by
    unfold unscopedSems0; rw [bigSep_eq_bigSepL_of_eq [SemLoc.reg barS] (by decide) (by decide)]; rfl
  rw [by_cell, h]
  exact sep_comm

/-- What a device knows and holds once the cells are open. -/
def opened (c : Dev nD) : sProp 𝕄 :=
  iprop((∃ κ : GSem nD τ sig → ℕ, (bigSep cells fun g => cellInv ER (sched a0) (κ g) g) ∗ bigSep cells fun g => reached ER g 0)
    ∗ (bigSep Finset.univ fun k : Option Site => fresh (kcell (c, k))) ∗ pays c)

instance opened_persistent : BI.Persistent
    (iprop(∃ κ : GSem nD τ sig → ℕ, (bigSep cells fun g => cellInv ER (sched a0) (κ g) g) ∗ bigSep cells fun g => reached ER g 0) : sProp 𝕄) := by infer_instance

theorem open_cells : (bigSep Finset.univ fun c => iprop(Pipeline.ownSems0 (Ix := ℕ) (Name := ℕ) (U := UU) (Lvl := ℕ) (Val := Elt F) (τ := τ) osem c ∗ unscopedSems0 c ∗ dealt a0 c) : sProp 𝕄)
    ⊢ |={Set.univ}=> bigSep Finset.univ (opened a0) := by
  have hv : (bigSep Finset.univ fun c : Dev nD => iprop(Pipeline.ownSems0 (Ix := ℕ) (Name := ℕ) (U := UU) (Lvl := ℕ) (Val := Elt F) (τ := τ) osem c ∗ unscopedSems0 c) : sProp 𝕄)
      ⊢ (bigSep cells fun g => semVal g 0) := by
    rw [by_device]; exact bigSep_mono fun c _ => (sems_eq c).1
  have hi : iprop((bigSep cells fun g => semVal g 0) ∗ bigSep cells fun g => roundState ER (sched a0) g 0)
      ⊢ (|={Set.univ}=> bigSep cells fun g => iprop(∃ κ : ℕ, cellInv ER (sched a0) κ g) : sProp 𝕄) := by
    rw [← bigSep_sep']
    exact (bigSep_mono fun g _ => (Rounds.body_intro ER (sched a0) g).trans inv_alloc).trans (bigSep_fupd _ _)
  have hk : (bigSep cells fun g => iprop(∃ κ : ℕ, cellInv ER (sched a0) κ g))
      ⊢ (iprop(∃ κ : GSem nD τ sig → ℕ, bigSep cells fun g => cellInv ER (sched a0) (κ g) g) : sProp 𝕄) :=
    BI.bigSep_exists_pi cells fun g (κ : ℕ) => cellInv ER (sched a0) κ g
  have hd : (bigSep Finset.univ (dealt a0) : sProp 𝕄)
      ⊢ iprop((bigSep cells fun g => roundState ER (sched a0) g 0) ∗ (bigSep cells fun g => reached ER g 0)
        ∗ (bigSep Finset.univ fun c : Dev nD => iprop((bigSep Finset.univ fun k : Option Site => fresh (kcell (c, k))) ∗ pays c))) := by
    rw [by_device, by_device, bigSep_sep']
    unfold dealt; simp only [bigSep_sep']
    exact BI.Entails.refl _
  have ha : (bigSep Finset.univ fun c : Dev nD => iprop(Pipeline.ownSems0 (Ix := ℕ) (Name := ℕ) (U := UU) (Lvl := ℕ) (Val := Elt F) (τ := τ) osem c ∗ unscopedSems0 c ∗ dealt a0 c) : sProp 𝕄)
      ⊢ iprop((bigSep Finset.univ fun c : Dev nD => iprop(Pipeline.ownSems0 (Ix := ℕ) (Name := ℕ) (U := UU) (Lvl := ℕ) (Val := Elt F) (τ := τ) osem c ∗ unscopedSems0 c)) ∗ bigSep Finset.univ (dealt a0)) := by
    rw [← bigSep_sep']
    exact bigSep_mono fun c _ => BI.sep_assoc'
  have hz : iprop((∃ κ : GSem nD τ sig → ℕ, (bigSep cells fun g => cellInv ER (sched a0) (κ g) g) ∗ bigSep cells fun g => reached ER g 0)
        ∗ (bigSep Finset.univ fun c : Dev nD => iprop((bigSep Finset.univ fun k : Option Site => fresh (kcell (c, k))) ∗ pays c)))
      ⊢ (bigSep Finset.univ (opened a0) : sProp 𝕄) := by
    refine (sep_mono_left (BI.bigSep_of_persistent (Finset.univ : Finset (Dev nD)) _)).trans ?_
    rw [← bigSep_sep']
    exact BI.Entails.refl _
  iintro H
  ihave H := ha $$ H
  icases H with ⟨Hv, Hd⟩
  ihave Hv := hv $$ Hv
  ihave Hd := hd $$ Hd
  icases Hd with ⟨Hs, Hr, Hp⟩
  imod hi $$ [Hv Hs] with Hi
  · isplitl [Hv] <;> iassumption
  ihave Hk := hk $$ Hi
  icases Hk with ⟨%κ, Hk⟩
  imodintro
  iapply hz
  isplitl [Hk Hr]
  · iexists κ
    isplitl [Hk] <;> iassumption
  iexact Hp

/-! ## What the body starts from, and what it leaves -/

/-- Device `c` at the start of its body: every cell's invariant, and its rights. -/
def start (c : Dev nD) : sProp 𝕄 := iprop((∃ κ : GSem nD τ sig → ℕ, known a0 κ) ∗ rights c)

theorem start_of (c : Dev nD) : iprop(opened a0 c ∗ levAts L lv ∗ Pipeline.launchCred (fun d => tallyL (dues d)) c) ⊢ (start a0 c : sProp 𝕄) := by
  have hf : (bigSep Finset.univ fun k : Option Site => (fresh (kcell (c, k)) : sProp 𝕄))
      = iprop(fresh (barCell c) ∗ ((bigSepL copies fun i => fresh (cell .rs .send c i)) ∗ bigSepL copies fun i => fresh (cell .rs .recv c i))
        ∗ (bigSepL copies fun i => fresh (cell .ag .send c i)) ∗ bigSepL copies fun i => fresh (cell .ag .recv c i)) := by
    rw [by_cell, by_site]
  have hc : (Pipeline.launchCred (fun d => tallyL (dues d)) c : sProp 𝕄)
      = iprop(cred (tallyAt (barCell c) 1 3) ∗ (bigSepL copies fun i => cred (tallyAt (cell .rs .recv c i) (level .rs i) (credit i.1)))
        ∗ bigSepL copies fun i => cred (tallyAt (cell .ag .recv c i) (level .ag i) (credit i.1))) := by
    rw [launch_credit, TalkSites.cred_tallyL, gets, List.cons_append, bigSepL_cons', bigSepL_append, bigSepL_map, bigSepL_map]
  unfold opened
  rw [hf, hc]
  unfold start rights known waits pays
  simp only [bigSepL_sep]
  iintro ⟨⟨⟨%κ, Hi, Hr⟩, ⟨Hb, ⟨F1, F2⟩, F3, F4⟩, T1, T2, T3⟩, Hl, C1, C2, C3⟩
  isplitl [Hi Hr Hl]
  · iexists κ
    isplitl [Hi]; · iexact Hi
    isplitl [Hr] <;> iassumption
  isplitl [T1]; · iexact T1
  isplitl [C1 Hb]
  · isplitl [C1] <;> iassumption
  isplitl [T2]; · iexact T2
  isplitl [T3]; · iexact T3
  isplitl [C2 F1 F2]
  · isplitl [C2]; · iexact C2
    isplitl [F1] <;> iassumption
  isplitl [C3]; · iexact C3
  isplitl [F3] <;> iassumption

omit [FloatOps F] in
theorem counters_end (c : Dev nD) : (counters c : sProp 𝕄)
    ⊢ iprop(unscopedSems0 c ∗ Pipeline.ownSems0 (Ix := ℕ) (Name := ℕ) (U := UU) (Lvl := ℕ) (Val := Elt F) (τ := τ) osem c) := by
  have h : (counters c : sProp 𝕄) ⊢ bigSep Finset.univ fun k : Option Site => semVal (kcell (c, k)) 0 := by
    rw [by_cell, by_site]
    unfold counters spent
    rw [bigSepL_sep, bigSepL_sep]
  exact (h.trans (sems_eq c).2).trans sep_comm.1

end Cert.Hypercube

end
-- ==== Proof.Launch.lean ====
/-
The launch: from any memory with all counters at zero, the eight bodies run to the end; the inputs are unchanged, the counters are back at zero, and
every device's result is the chunks' sums, gathered.
-/
module

public import proofs.«01_k».proof.Proof.Deal
public import proofs.«01_k».proof.Proof.Gen.KernelIdeal.Points
public import Idealize.ShloMosaic.Lib.Pipeline.CollectiveSegs

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (ρ : Dev nD → PrngReg)

/-! ## The data -/

/-- What the three input windows stage on device `c`. -/
def xOf (c : Dev nD) : FVec F S1024x512 .f32 := (win0_0.blk (0 : Fin 1)).view.read (Elt F) (m ((c : Thread nD τ).loc main_arg0))
@[inherit_doc xOf] def idxOf (c : Dev nD) : IVec S1024x1 32 := (win0_1.blk (0 : Fin 1)).view.read (Elt F) (m ((c : Thread nD τ).loc main_arg2))
@[inherit_doc xOf] def wOf (c : Dev nD) : FVec F S4x512x1024 .f32 := (win0_2.blk (0 : Fin 1)).view.read (Elt F) (m ((c : Thread nD τ).loc main_arg3))

/-- Device `c`'s contribution. -/
def part (c : Dev nD) : FVec F S1024x1024 .f32 := contrib c (xOf m c) (idxOf m c) (wOf m c)

/-- After the body: the counters back, the two scratch buffers at some contents. -/
def finish (c : Dev nD) : sProp 𝕄 := iprop(counters c ∗ (∃ f, whole c cc0_scratch0 f) ∗ ∃ f, whole c cc0_scratch1 f)
/-- Before it. -/
def begin' (c : Dev nD) : sProp 𝕄 := iprop(start (part m) c ∗ (∃ f, whole c cc0_scratch0 f) ∗ ∃ f, whole c cc0_scratch1 f)

def dats (_ : Fin 1) (c : Dev nD) : Dat τ (Elt F) ℕ ℕ UU ℕ cfg0 c where
  A w := m ((cfg0.win w).arr.view.loc (c : Thread nD τ))
  after w _ := match w with
    | ⟨0, _⟩ => xOf m c
    | ⟨1, _⟩ => idxOf m c
    | ⟨2, _⟩ => wOf m c
    | ⟨3, _⟩ => out (part m)
  Φ t := match t with
    | ⟨0, _⟩ => begin' m c
    | ⟨_ + 1, _⟩ => finish c
  q _ := fullShare
  owed t := match t with
    | ⟨0, _⟩ => tallyL (dues c)
    | ⟨_ + 1, _⟩ => 0

/-! ## The body obligation -/

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ whole c b f)

def bodyPre (c : Dev nD) : sProp 𝕄 :=
  iprop(begin' m c ∗ (dats m 0 c).owesAt 0 t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))

def bodyPost (c : Dev nD) : sProp 𝕄 :=
  iprop(finish c ∗ (dats m 0 c).owesAt 0 t0_0.succ
    ∗ stg c cc0_stg0_0 (xOf m c) ∗ stg c cc0_stg1_0 (idxOf m c) ∗ stg c cc0_stg2_0 (wOf m c) ∗ stg c cc0_stg3_0 (out (part m)))

theorem before_x (c : Dev nD) (d) : (dats m 0 c).before (0 : Fin 4) t0_0 d = xOf m c := by unfold Dat.before; rw [if_pos (fetch0_0 t0_0)]; rfl
theorem before_idx (c : Dev nD) (d) : (dats m 0 c).before (1 : Fin 4) t0_0 d = idxOf m c := by unfold Dat.before; rw [if_pos (fetch0_1 t0_0)]; rfl
theorem before_w (c : Dev nD) (d) : (dats m 0 c).before (2 : Fin 4) t0_0 d = wOf m c := by unfold Dat.before; rw [if_pos (fetch0_2 t0_0)]; rfl

theorem owes_start (c : Dev nD) : (dats m 0 c).owesAt 0 t0_0.castSucc ⊢ (owing c (dues c) : sProp 𝕄) := by
  unfold Dat.owesAt Pipeline.owesWithin owing
  rw [show (dats m 0 c).owed t0_0.castSucc = tallyL (dues c) from rfl]
  iintro ⟨%W, -, H⟩
  iexists W; iexact H
theorem owes_end (c : Dev nD) : (owing c [] : sProp 𝕄) ⊢ (dats m 0 c).owesAt 0 t0_0.succ := by
  unfold Dat.owesAt Pipeline.owesWithin owing
  rw [show (dats m 0 c).owed t0_0.succ = tallyL [] from rfl]
  iintro ⟨%W, H⟩
  iexists W
  isplitr; · ipureintro; exact fun _ _ => Or.inl trivial
  iexact H

omit m in
/-- A device learns its own number. -/
theorem wp_id (c : Dev nD) (k : Dev nD → Body F PUnit) (Q : PUnit → sProp 𝕄) : run c (Prog.lift .deviceId >>= k) Q = run c (k c) Q :=
  wp_deviceId 𝒱₀ (c : Thread nD τ) none Set.univ

theorem sound_body (c : Dev nD) : bodyPre m c ⊢ run c (Prog.lift .deviceId >>= fun d => walk d) fun _ => bodyPost m c := by
  have hw (κ : GSem nD τ sig → ℕ) := wp_walk (part m) κ c (xOf m c) (idxOf m c) (wOf m c) rfl fun _ => bodyPost m c
  rw [wp_id]
  unfold bodyPre begin' start
  simp only [before_x, before_idx, before_w]
  iintro ⟨⟨⟨⟨%κ, Hk⟩, Hr⟩, Ha, Hb⟩, Ho, ⟨%d0, %f0, %e0, Hx⟩, ⟨%d1, %f1, %e1, Hi⟩, ⟨%d2, %f2, %e2, Hw⟩, ⟨%d3, %f3, -, Hout⟩⟩
  subst e0 e1 e2
  ihave Ho := (owes_start m c) $$ Ho
  iapply (hw κ) $$ [Hk Hr Ha Hb Ho Hx Hi Hw Hout]
  · isplitl [Hk]; · iexact Hk
    isplitl [Hr]; · iexact Hr
    isplitl [Hx Hi Hw]
    · isplitl [Hx]; · iexact Hx
      isplitl [Hi] <;> iassumption
    isplitl [Hout]; · iexists _; iexact Hout
    isplitl [Ha]; · iexact Ha
    isplitl [Hb]; · iexact Hb
    iexact Ho
  iintro ⟨⟨Hx, Hi, Hw⟩, Hout, Ha, Hb, Hc, Ho⟩
  ihave Ho := (owes_end m c) $$ Ho
  unfold bodyPost finish
  isplitl [Ha Hb Hc]
  · isplitl [Hc]; · iexact Hc
    isplitl [Ha] <;> iassumption
  isplitl [Ho]; · iexact Ho
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 65536 in
/-- The body obligation of the launch. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre m c ⊢ run c (cc0_body (F := F) xM (Memref.isWhole_whole _) idxM (Memref.isWhole_whole _) wM (Memref.isWhole_whole _) outM (Memref.isWhole_whole _) accM (Memref.isWhole_whole _) rsbM (Memref.isWhole_whole _)
    cc0_scratch2 cc0_scratch3 cc0_scratch4 cc0_scratch5) fun _ => bodyPost m c
  rw [body_eq]
  exact sound_body m c

/-! ## The launch -/

theorem ownSemFacts : Pipeline.OwnSemFacts cfg0.spec osem where
  isScoped := by decide +kernel
  inj := fun s s' h => Option.some.inj (csem_injective h)
  disj := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf cells duties)

theorem waits_stage (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait (by decide) c _ (l := dues c) fun x hx => by
        rcases List.mem_cons.mp hx with rfl | hx
        · exact ⟨rfl, Nat.zero_lt_one, (by decide : 1 < 8)⟩
        rcases List.mem_cons.mp hx with rfl | hx
        · exact ⟨rfl, Nat.zero_lt_one, (by decide : 1 < 8)⟩
        rcases List.mem_cons.mp hx with rfl | hx
        · exact ⟨rfl, Nat.zero_lt_one, (by decide : 1 < 8)⟩
        exact above_mono (Nat.zero_le 1) (above_copies c) x hx
    · exact mayWait (by decide) c _ (l := []) (above_nil 0)

/-- What is left to the side: the input that no window stages. -/
def aside (c : Dev nD) : sProp 𝕄 := whole c main_arg1 (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred (fun d => tallyL (dues d)) c ∗ prngReg c (ρ c) ∗ opened (part m) c)
      ⊢ (|={Set.univ}=> iprop(start (part m) c ∗ aside m c) : sProp 𝕄) := by
  have hs := start_of (part m) c
  have hu : Pipeline.unscopedRestP Pipeline.Prefetch.none cfg0.spec c (fun b => m ((c : Thread nD τ).loc b)) ⊢ (aside m c : sProp 𝕄) :=
    Entails.of_eq ((Pipeline.unscopedRestP_none cfg0.spec c _).trans (unscopedRest0_eq c _))
  iintro ⟨Hu, Hl, Hc, -, Ho⟩
  ihave Hu := hu $$ Hu
  ihave Hs := hs $$ [Ho Hl Hc]
  · isplitl [Ho]; · iexact Ho
    isplitl [Hl] <;> iassumption
  imodintro
  isplitl [Hs] <;> iassumption

theorem begin_intro (c : Dev nD) :
    iprop(start (part m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = begin' m c from rfl, scopedRest0_eq]
  unfold begin'
  iintro ⟨Hs, -, Hr⟩
  isplitl [Hs] <;> iassumption

theorem finish_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finish c from rfl, scopedRest0_eq]
  unfold finish
  iintro ⟨Hc, Hr⟩
  ihave Hc := (counters_end c) $$ Hc
  icases Hc with ⟨Hu, Ho⟩
  isplitl [Hu]; · iexact Hu
  isplitl [Ho] <;> iassumption

/-- What a device's leftovers say of the final memory. -/
theorem read_end (c : Dev nD) (s' : Phys nD τ sig (Elt F)) :
    iprop(unscopedSems0 c ∗ aside m c ∗ SI s')
      ⊢ (|={Set.univ}=> iprop(⌜s'.mem.mem ((c : Thread nD τ).loc main_arg1) = m ((c : Thread nD τ).loc main_arg1)
          ∧ ∀ sm : SemLoc sig, sm.isScoped .tc = false → s'.mem.sem ((c.tc : Thread nD τ), sm) = 0⌝ ∗ SI s') : sProp 𝕄) := by
  unfold aside
  iintro ⟨Hu, Ha, HSI⟩
  icombine HSI Ha gives %h
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ h, hs⟩
  iexact HSI

/-- What a window's array holds after the run. -/
def finalA (c : Dev nD) (w : Fin cfg0.W) : Buf (Elt F) ((cfg0.win w).arr.view.loc (c : Thread nD τ)) := (dats m 0 c).arrAt w cfg0.N

/-- The end of a run: every window's array as computed, the input that no window stages unchanged. -/
def Ended (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 65536 in
/-- On the eight devices, for any float values, from any memory with all counters at zero: every fair execution ends, with the arrays as computed and
    all counters at zero. -/
theorem run_main : θ_run defs (onTc (τ := τ) (main (F := F))) ⟨m, fun _ => 0, ρ⟩ (fun r => Ended m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => tallyL (dues d)) (howed₀ := fun _ => rfl) (howedN := fun _ => rfl)
    (L := L) (lv := lv) (hL := SiteBlocks.hL 8) (hwaits := waits_stage m)
    (G := dealt (part m)) (G' := opened (part m)) (u₀ := u₀)
    (hu₀ := by
      unfold u₀
      iintro Hu
      ihave H := (ownU_pair _ _) $$ Hu
      icases H with ⟨HP, HX⟩
      imod (deal (part m)) $$ HX with HG
      imodintro
      isplitl [HP] <;> iassumption)
    (hglob := open_cells (part m))
    (hA := fun _ _ => rfl) (hpf := fun _ k => k.elim0)
    (X := start (part m)) (Y := fun c => unscopedSems0 c) (Z := aside m)
    (hX := start_intro m ρ) (hin := begin_intro m) (hout := finish_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := read_end m)
    (hQ := fun _ h hs => ⟨fun c => ⟨fun w => (h c).1 w, (h c).2.2.1⟩, sem_eq_zero hs fun c => (h c).2.2.2⟩)

end Cert.Hypercube

end
-- ==== Proof.Frames.lean ====
/-
  What the launch leaves behind, read at the program's own arrays: the inputs as they were, the result at the reduced contributions,
  every counter at zero. From these come the claims that the kernel, at bit patterns and at extended reals, and the reference end
  quietly.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.Hypercube

open Cert.KernelIdeal Cert.KernelIdeal.Gen
open Idealize.ShloMosaic
open Idealize.ShloMosaic.TcCoe
open Idealize.SL.Sem
open Idealize.ShloMosaic.Pipeline

variable {F : FTy → Type} [FloatOps F]
variable (m : (ℓ : Loc nD τ sig) → Buf (Elt F) ℓ) (ρ : Dev nD → PrngReg)

/-- The rows' array is an input: the run leaves it as it was. -/
theorem final_x (c : Dev nD) : finalA m c (0 : Fin 4) = m ((c : Thread nD τ).loc main_arg0) := (dats m 0 c).arrAt_in (0 : Fin 4) rfl _
/-- The routing array is an input. -/
theorem final_idx (c : Dev nD) : finalA m c (1 : Fin 4) = m ((c : Thread nD τ).loc main_arg2) := (dats m 0 c).arrAt_in (1 : Fin 4) rfl _
/-- The device's expert matrices are an input. -/
theorem final_w (c : Dev nD) : finalA m c (2 : Fin 4) = m ((c : Thread nD τ).loc main_arg3) := (dats m 0 c).arrAt_in (2 : Fin 4) rfl _

/-- The result array's one block is the whole array: reading it back gives what the body left there. -/
theorem final_out (c : Dev nD) : (win0_3.blk (0 : Fin 1)).view.read (Elt F) (finalA m c (3 : Fin 4)) = out (part m) := by
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

/-- Whatever the arrays held, the run leaves the four arguments unchanged on every device. -/
theorem args_unchanged {r : PUnit × MemSt nD τ sig (Elt F)} (h : Ended m r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  ⟨((h c).1 (0 : Fin 4)).trans (final_x m c), (h c).2, ((h c).1 (1 : Fin 4)).trans (final_idx m c), ((h c).1 (2 : Fin 4)).trans (final_w m c)⟩

end Cert.Hypercube

namespace Cert.Hypercube

open Idealize.ShloMosaic Idealize.SL.Sem

/-- The two printings of the kernel give each label the same body: they are the same text. -/
theorem bodies_eq : Cert.Kernel.defs₀ (F := Bits) = Cert.KernelIdeal.defs₀ (F := Bits) := by
  unfold Cert.Kernel.defs₀ Cert.KernelIdeal.defs₀
  congr 1
  funext l a
  match l, a with
  | 0, (_, _) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) bodies_eq

/-- The kernel at bit patterns ends, its arguments unchanged and its counters at zero. -/
theorem frame_kernel : Cert.quiescent_Kernel := by
  intro m ρ _
  have h := (θ_run Cert.KernelIdeal.defs _ _).mono (fun r h => (⟨args_unchanged (F := Bits) m h.1, h.2⟩ : _ ∧ r.2.sem = fun _ => 0)) (run_main (F := Bits) m ρ)
  rw [defs_eq]
  exact h

/-- The kernel at extended reals ends, its arguments unchanged and its counters at zero. -/
theorem frame_kernelIdeal : Cert.quiescent_KernelIdeal := fun m ρ _ =>
  (θ_run Cert.KernelIdeal.defs _ _).mono (fun _ h => ⟨args_unchanged (F := Ideal) m h.1, h.2⟩) (run_main (F := Ideal) m ρ)

/-- The reference ends, its arguments unchanged; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Hypercube

end
-- ==== Proof.Contribution.lean ====
/-
What a device's contribution is, element by element, at extended reals, and what the eight contributions add up to.

The rows are masked by a column of ones and zeros before each product.  Multiplying by one or zero is exact at extended reals
whatever the entry, infinities included, so a masked product is either the product or zero.  A row's number of its expert
picks one of the thirty-two experts or none; the sum over devices and over each one's four experts therefore has at most one
term, and the order of the additions does not matter.
-/
module

public import proofs.«01_k».proof.Proof.Body
public import Idealize.ShloMosaic.PureOps.Ideal.Laws
public import Idealize.ShloMosaic.Lib.ValueIdx
public import Idealize.ShloMosaic.Lib.StackMember
public import Idealize.ShloMosaic.Lib.KernelVsHost

@[expose] public section

noncomputable section

namespace Cert.Hypercube

open Cert.KernelIdeal Cert.KernelIdeal.Gen
open Idealize.ShloMosaic
open Idealize.ShloMosaic.TcCoe
open Idealize.ShloMosaic.ValueIdx

/-! ## One product -/

/-- The word the program compares a row's expert number with, for the device's expert `e`. -/
theorem expertWord : ∀ (c : Dev nD) (e : Fin 4),
    Scalar.addi (Scalar.muli (devWord c) 4#32) (BitVec.ofNat 32 e.val) = BitVec.ofNat 32 (4 * c.val + e.val) := by decide +kernel

/-- A column of ones where the entry is the given word, of zeros elsewhere. -/
abbrev maskCol (i : IVec S1024x1 32) (g : BitVec 32) : FVec Ideal S1024x1 .f32 :=
  sitofp .f32 (extui 32 (cmpi .eq (shapeCast S1024x1 i shapeCasts_S1024x1_S1024x1) (broadcast S1024x1 g)) natLt_1_32)

/-- The masked rows times one expert's matrix. -/
abbrev maskedDot (x : FVec Ideal S1024x512 .f32) (mk : FVec Ideal S1024x1 .f32) (w : FVec Ideal S1x512x1024 .f32) : FVec Ideal S1024x1024 .f32 :=
  matmul dot_S1024x512_S512x1024_S1024x1024_1_0_0_1_n_n none
    (mulf (shapeCast S1024x512 x shapeCasts_S1024x512_S1024x512) (broadcastTo S1024x512 mk broadcasts_S1024x1_S1024x512))
    (shapeCast S512x1024 w shapeCasts_S1x512x1024_S512x1024) (constant S1024x1024 .f32 0x00000000#32)

/-- The mask at a row: one where the row's expert number is the word, zero elsewhere. -/
theorem maskCol_apply (i : IVec S1024x1 32) (g : BitVec 32) (j : S1024x1.Idx) : maskCol i g j = if i j = g then 1 else 0 := by
  unfold maskCol
  rw [sitofp_extui_eq_uitofp, shapeCast_self]
  show (((IntOp.cmpi .eq (i j) g).toNat : ℝ) : EReal) = _
  unfold IntOp.cmpi
  by_cases h : i j = g <;> simp [h]

/-- Element (r, f) of the product is the sum over the features of row `r`, masked, times column `f`. -/
theorem maskedDot_apply (x : FVec Ideal S1024x512 .f32) (mk : FVec Ideal S1024x1 .f32) (w : FVec Ideal S1x512x1024 .f32) (r f : Fin 1024) :
    maskedDot x mk w (ix2 r f) = ∑ k : Fin 512, x (ix2 r k) * mk (ix2 r (0 : Fin 1)) * w (ix3 (0 : Fin 1) k f) := by
  unfold maskedDot
  rw [shapeCast_self]
  refine (Ideal.matmul_constant_zero_apply _ _ _ _ _).trans ?_
  have h := StackMember.dotGeneral_plain_apply (m := 1024) (n := 1024) none
    (mulf x (broadcastTo S1024x512 mk broadcasts_S1024x1_S1024x512)) (shapeCast S512x1024 w shapeCasts_S1x512x1024_S512x1024) r f
  refine Eq.trans ?_ (h.trans (Finset.sum_congr rfl fun k _ => ?_))
  · exact (Ideal.dotGeneral_apply _ _ _ _ _ _).symm
  · rw [ValueIdx.mulf_apply, broadcastTo_apply mk _ (ix2 r k) (ix2 r (0 : Fin 1)) (fun a => by fin_cases a <;> rfl),
      shapeCast_apply w _ (ix2 k f) (ix3 (0 : Fin 1) k f) (by
        rw [Shape.rowMajor_val_three, Shape.rowMajor_val_two]
        show (0 * 512 + k.val) * 1024 + f.val = k.val * 1024 + f.val
        omega)]

/-- An expert's matrix as the program loads it: the slab of that number. -/
theorem slab_apply (e : Fin 4) (w : FVec Ideal S4x512x1024 .f32) (k : Fin 512) (f : Fin 1024) :
    slab (F := Ideal) e w (ix3 (0 : Fin 1) k f) = w (ix3 e k f) := by
  unfold slab
  rw [View.readAt_apply]
  refine congrArg w (funext fun a => Fin.ext ?_)
  fin_cases a
  · exact Nat.add_zero e.val
  · exact (Nat.zero_add _).trans (Nat.one_mul k.val)
  · exact (Nat.zero_add _).trans (Nat.one_mul f.val)

/-! ## One device -/

/-- The contribution is the sum of the four masked products. -/
theorem contrib_eq (c : Dev nD) (x : FVec Ideal S1024x512 .f32) (i : IVec S1024x1 32) (w : FVec Ideal S4x512x1024 .f32) :
    contrib c x i w = addf (addf (addf
        (maskedDot x (maskCol i (Scalar.addi (Scalar.muli (devWord c) 4#32) (BitVec.ofNat 32 (0 : Fin 4).val))) (slab 0 w))
        (maskedDot x (maskCol i (Scalar.addi (Scalar.muli (devWord c) 4#32) (BitVec.ofNat 32 (1 : Fin 4).val))) (slab 1 w)))
        (maskedDot x (maskCol i (Scalar.addi (Scalar.muli (devWord c) 4#32) (BitVec.ofNat 32 (2 : Fin 4).val))) (slab 2 w)))
        (maskedDot x (maskCol i (Scalar.addi (Scalar.muli (devWord c) 4#32) (BitVec.ofNat 32 (3 : Fin 4).val))) (slab 3 w)) := by
  unfold contrib contribution k0_pay5
  exact shapeCast_self _ _

/-- Row `r` of `x` times column `f` of an expert's matrix. -/
def rowCol (x : FVec Ideal S1024x512 .f32) (M : Fin 512 → Fin 1024 → EReal) (r f : Fin 1024) : EReal :=
  ∑ k : Fin 512, x (ix2 r k) * M k f

/-- One expert's part of the contribution: the row's product where the row is routed to it, zero elsewhere. -/
theorem expert_apply (c : Dev nD) (e : Fin 4) (x : FVec Ideal S1024x512 .f32) (i : IVec S1024x1 32) (w : FVec Ideal S4x512x1024 .f32) (r f : Fin 1024) :
    maskedDot x (maskCol i (Scalar.addi (Scalar.muli (devWord c) 4#32) (BitVec.ofNat 32 e.val))) (slab (F := Ideal) e w) (ix2 r f)
      = if (i (ix2 r (0 : Fin 1))).toNat = 4 * c.val + e.val then rowCol x (fun k f => w (ix3 e k f)) r f else 0 := by
  have hn : (i (ix2 r (0 : Fin 1)) = BitVec.ofNat 32 (4 * c.val + e.val)) ↔ (i (ix2 r (0 : Fin 1))).toNat = 4 * c.val + e.val := by
    have := c.isLt
    have := e.isLt
    have h8 : nD = 8 := rfl
    rw [← BitVec.toNat_inj, BitVec.toNat_ofNat, Nat.mod_eq_of_lt (by omega)]
  rw [maskedDot_apply, expertWord]
  simp only [maskCol_apply, slab_apply, hn]
  by_cases h : (i (ix2 r (0 : Fin 1))).toNat = 4 * c.val + e.val
  · simp only [if_pos h, mul_one]; rfl
  · simp only [if_neg h, mul_zero, zero_mul, Finset.sum_const_zero]

/-- Element (r, f) of a device's contribution: over its four experts, the row's product where the row is routed there. -/
theorem contrib_apply (c : Dev nD) (x : FVec Ideal S1024x512 .f32) (i : IVec S1024x1 32) (w : FVec Ideal S4x512x1024 .f32) (r f : Fin 1024) :
    contrib c x i w (ix2 r f)
      = ∑ e : Fin 4, if (i (ix2 r (0 : Fin 1))).toNat = 4 * c.val + e.val then rowCol x (fun k f => w (ix3 e k f)) r f else 0 := by
  rw [contrib_eq, Fin.sum_univ_four]
  simp only [ValueIdx.addf_apply]
  rw [expert_apply c 0, expert_apply c 1, expert_apply c 2, expert_apply c 3]

/-! ## All devices -/

/-- The eight devices whose contributions a device has after three steps of part `π`: itself and those reached through the partners. -/
def reach (π : Fin 3) (c : Dev nD) : Fin 8 → Dev nD :=
  ![c, peer c (axisAt π 0), peer c (axisAt π 1), peer (peer c (axisAt π 1)) (axisAt π 0),
    peer c (axisAt π 2), peer (peer c (axisAt π 2)) (axisAt π 0), peer (peer c (axisAt π 2)) (axisAt π 1),
    peer (peer (peer c (axisAt π 2)) (axisAt π 1)) (axisAt π 0)]

/-- They are all the devices, each once. -/
theorem reach_injective : ∀ (π : Fin 3) (c : Dev nD) (s t : Fin 8), reach π c s = reach π c t → s = t := by decide +kernel

/-- Each element of the result is the sum of the eight contributions. -/
theorem out_apply (a0 : Dev nD → FVec Ideal S1024x1024 .f32) (i : S1024x1024.Idx) : out a0 i = ∑ c : Dev nD, a0 c i := by
  have key (π : Fin 3) (c : Dev nD) (g : Dev nD → EReal) :
      ((g c + g (peer c (axisAt π 0))) + (g (peer c (axisAt π 1)) + g (peer (peer c (axisAt π 1)) (axisAt π 0))))
        + ((g (peer c (axisAt π 2)) + g (peer (peer c (axisAt π 2)) (axisAt π 0)))
          + (g (peer (peer c (axisAt π 2)) (axisAt π 1)) + g (peer (peer (peer c (axisAt π 2)) (axisAt π 1)) (axisAt π 0)))) = ∑ c, g c := by
    have hb : Function.Bijective (reach π c) := Finite.injective_iff_bijective.1 fun s t => reach_injective π c s t
    rw [← hb.sum_comp g, Fin.sum_univ_eight]
    simp only [add_assoc]
    rfl
  exact key (partOf (i 1).val) (owner (chunkIn (i 0).val)) fun c => a0 c i

/-- The routed product: row `r` of `x` times column `f` of the expert that the row is routed to, zero where no expert has that number. -/
def routed (x : FVec Ideal S1024x512 .f32) (i : IVec S1024x1 32) (W : FVec Ideal ⟨3, ![32, 512, 1024]⟩ .f32) : FVec Ideal S1024x1024 .f32 := fun j =>
  if h : (i (ix2 (j 0) (0 : Fin 1))).toNat < 32 then rowCol x (fun k f => W (ix3 (⟨_, h⟩ : Fin 32) k f)) (j 0) (j 1) else 0

/-- Where device `c` holds experts `4c … 4c + 3` of `W`, the contributions add up to the routed product. -/
theorem total (x : FVec Ideal S1024x512 .f32) (i : IVec S1024x1 32) (W : FVec Ideal ⟨3, ![32, 512, 1024]⟩ .f32) (w : Dev nD → FVec Ideal S4x512x1024 .f32)
    (hw : ∀ (c : Dev nD) (e : Fin 4) (k : Fin 512) (f : Fin 1024), w c (ix3 e k f) = W (ix3 (finProdFinEquiv (m := 8) (n := 4) (c, e)) k f)) :
    out (fun c => contrib c x i (w c)) = routed x i W := by
  funext j
  obtain ⟨r, f, rfl⟩ : ∃ r f : Fin 1024, j = ix2 r f := ⟨j 0, j 1, eq_ix2 j⟩
  rw [out_apply]
  simp only [contrib_apply, hw]
  show _ = if h : (i (ix2 r (0 : Fin 1))).toNat < 32 then rowCol x (fun k f => W (ix3 (⟨_, h⟩ : Fin 32) k f)) r f else 0
  generalize (i (ix2 r (0 : Fin 1))).toNat = n
  have hsum : ∀ G : Fin 32 → EReal, (∑ c : Dev nD, ∑ e : Fin 4, if n = 4 * c.val + e.val then G (finProdFinEquiv (m := 8) (n := 4) (c, e)) else 0)
      = ∑ g : Fin 32, if n = g.val then G g else 0 := fun G => by
    rw [← Equiv.sum_comp (finProdFinEquiv (m := 8) (n := 4)), Fintype.sum_prod_type]
    refine Finset.sum_congr rfl fun c _ => Finset.sum_congr rfl fun e _ => ?_
    rw [show (finProdFinEquiv (m := 8) (n := 4) (c, e)).val = 4 * c.val + e.val from Nat.add_comm _ _]
  refine (hsum fun g => rowCol x (fun k f => W (ix3 g k f)) r f).trans ?_
  by_cases h : n < 32
  · rw [dif_pos h, Finset.sum_eq_single (⟨n, h⟩ : Fin 32) (fun g _ hg => if_neg fun e => hg (Fin.ext e.symm)) (fun hn => absurd (Finset.mem_univ _) hn)]
    exact if_pos rfl
  · rw [dif_neg h]
    exact Finset.sum_eq_zero fun g _ => if_neg fun (e : n = g.val) => h (e.trans_lt g.isLt)

end Cert.Hypercube

end
-- ==== Proof.Reference.lean ====
/-
What the reference computes, element by element, at extended reals: the routed product.

The reference clips each row's expert number to the table, fetches that expert's matrix for the row, multiplies, and keeps the
row only where the number was in range.  Where it is in range the clipping does nothing and the fetched matrix is the expert's; where
it is not, the row is zero whatever was fetched.
-/
module

public import proofs.«01_k».proof.Proof.Contribution
public import proofs.«01_k».proof.Proof.Gen.ReferenceIdeal.Run
public import Idealize.ShloMosaic.Lib.WordArith

@[expose] public section

noncomputable section

namespace Cert.Hypercube

open Cert.ReferenceIdeal Cert.ReferenceIdeal.Gen
open Idealize.ShloMosaic
open Idealize.ShloMosaic.ValueIdx

/-! ## The reference's term, in pieces -/

/-- The rows' expert numbers as a vector. -/
abbrev numbers (i : IVec S1024x1 32) : IVec S1024 32 := shapeCast S1024 i shapeCasts_S1024x1_S1024
/-- A number at every row. -/
abbrev every (n : BitVec 32) : IVec S1024 32 := broadcastInDim S1024 ![] bcast_S_S1024 (constantI S_ 32 n)
/-- The expert numbers clipped to the table. -/
abbrev clipped (i : IVec S1024x1 32) : IVec S1024 32 := minsi (every 31#32) (maxsi (every 0#32) (numbers i))
/-- The rows of the table to fetch: a negative number counts from the table's end. -/
abbrev fetchRows (i : IVec S1024x1 32) : IVec S1024 32 :=
  select (cmpi .slt (clipped i) (every 0#32)) (addi (clipped i) (every 32#32)) (clipped i)
/-- A column that holds one number, as a slice's start along an axis that is fetched whole. -/
abbrev column (n : BitVec 32) : IVec S1024x1 32 :=
  broadcastInDim S1024x1 ![] bcast_S_S1024x1 (select (cmpi .slt (constantI S_ 32 0#32) (constantI S_ 32 0#32)) (addi (constantI S_ 32 0#32) (constantI S_ 32 n)) (constantI S_ 32 0#32))
/-- Where each row's slice of the table starts. -/
abbrev starts (i : IVec S1024x1 32) : IVec S1024x3 32 :=
  concatenate S1024x3 1 [⟨S1024x1, broadcastInDim S1024x1 ![0] bcast_S1024_S1024x1_0 (fetchRows i)⟩, ⟨S1024x1, column 512#32⟩, ⟨S1024x1, column 1024#32⟩]
    concatenates_S1024x1_S1024x1_S1024x1_S1024x3_d1
/-- Each row's expert matrix. -/
abbrev matrices (i : IVec S1024x1 32) (W : FVec Ideal S32x512x1024 .f32) : FVec Ideal S1024x512x1024 .f32 :=
  shapeCast S1024x512x1024 (Host.gather gather_S32x512x1024_S1024x3_S1024x1x512x1024_123_n_n_n_012_1_15121024 W (starts i)) shapeCasts_S1024x1x512x1024_S1024x512x1024
/-- Each row's product with its matrix. -/
abbrev products (x : FVec Ideal S1024x512 .f32) (i : IVec S1024x1 32) (W : FVec Ideal S32x512x1024 .f32) : FVec Ideal S1024x1024 .f32 :=
  Host.dotGeneral dot_S1024x512_S1024x512x1024_S1024x1024_1_1_n_2_0_0 none x (matrices i W)
/-- The rows whose number is in range. -/
abbrev inTable (i : IVec S1024x1 32) : IVec S1024 1 := andi (cmpi .sge (numbers i) (every 0#32)) (cmpi .slt (numbers i) (every 32#32))
/-- What the reference returns. -/
def refOut (x : FVec Ideal S1024x512 .f32) (i : IVec S1024x1 32) (W : FVec Ideal S32x512x1024 .f32) : FVec Ideal S1024x1024 .f32 :=
  select (broadcastInDim S1024x1024 ![0, 1] bcast_S1024x1_S1024x1024_0_1 (broadcastInDim S1024x1 ![0] bcast_S1024_S1024x1_0 (inTable i)))
    (products x i W) (broadcastInDim S1024x1024 ![] bcast_S_S1024x1024 (constant S_ .f32 0x00000000#32))

/-! ## Each piece at an index -/

theorem numbers_apply (i : IVec S1024x1 32) (r : Fin 1024) : numbers i (ix1 r) = i (ix2 r (0 : Fin 1)) :=
  shapeCast_apply i _ (ix1 r) (ix2 r (0 : Fin 1)) (by
    rw [Shape.rowMajor_val_two, Shape.rowMajor_val_one]
    show r.val * 1 + 0 = r.val
    omega)

/-- The test's word is one exactly where the number is one of the thirty-two. -/
theorem inTable_iff (v : BitVec 32) : IntOp.andi (IntOp.cmpi .sge v 0#32) (IntOp.cmpi .slt v 32#32) = 1#1 ↔ v.toNat < 32 := by
  have h0 : (0#32 : BitVec 32).toInt = 0 := by decide
  have h32 : (32#32 : BitVec 32).toInt = 32 := by decide
  have hv := v.isLt
  simp only [IntOp.cmpi, WordArith.andi_ofBool, WordArith.ofBool_eq_one_iff, Bool.and_eq_true, BitVec.sle_iff_toInt_le, BitVec.slt_iff_toInt_lt, h0, h32,
    BitVec.toInt_eq_toNat_cond]
  split <;> omega

/-- A number in range is fetched from its own row of the table: clipping changes nothing, and it is not negative. -/
theorem fetch_word : ∀ e : Fin 32,
    Scalar.select (IntOp.cmpi .slt (IntOp.minsi 31#32 (IntOp.maxsi 0#32 (BitVec.ofNat 32 e.val))) 0#32)
      (IntOp.addi (IntOp.minsi 31#32 (IntOp.maxsi 0#32 (BitVec.ofNat 32 e.val))) 32#32) (IntOp.minsi 31#32 (IntOp.maxsi 0#32 (BitVec.ofNat 32 e.val)))
      = BitVec.ofNat 32 e.val := by decide +kernel

theorem fetchRows_apply (i : IVec S1024x1 32) (r : Fin 1024) (e : Fin 32) (h : (i (ix2 r (0 : Fin 1))).toNat = e.val) :
    fetchRows i (ix1 r) = BitVec.ofNat 32 e.val := by
  have hw : numbers i (ix1 r) = BitVec.ofNat 32 e.val := by
    rw [numbers_apply, ← h, BitVec.ofNat_toNat, BitVec.setWidth_eq]
  show Scalar.select (IntOp.cmpi .slt (IntOp.minsi 31#32 (IntOp.maxsi 0#32 (numbers i (ix1 r)))) 0#32) _ _ = _
  show Scalar.select (IntOp.cmpi .slt (IntOp.minsi 31#32 (IntOp.maxsi 0#32 (numbers i (ix1 r)))) 0#32)
      (IntOp.addi (IntOp.minsi 31#32 (IntOp.maxsi 0#32 (numbers i (ix1 r)))) 32#32) (IntOp.minsi 31#32 (IntOp.maxsi 0#32 (numbers i (ix1 r)))) = _
  rw [hw]
  exact fetch_word e

/-- The first coordinate of a row's start is the table row to fetch. -/
theorem starts_apply (i : IVec S1024x1 32) (r : Fin 1024) : starts i (ix2 r (0 : Fin 3)) = fetchRows i (ix1 r) := by
  refine (concatenate_apply_piece (t := S1024x3) 1 _ _ (ix2 r (0 : Fin 3)) 0 (by simp) S1024x1 _ rfl rfl 0 rfl
    (ix2 r (0 : Fin 1)) (fun b hb => ?_) rfl).trans ?_
  · fin_cases b
    · rfl
    · exact absurd rfl hb
  · exact broadcastInDim_apply _ _ _ (ix2 r (0 : Fin 1)) (ix1 r) fun a => by fin_cases a; rfl

section Fetch

/-- The reference's fetch: from each row's start, one expert's whole matrix. -/
abbrev fetch := gather_S32x512x1024_S1024x3_S1024x1x512x1024_123_n_n_n_012_1_15121024

variable (i : IVec S1024x1 32) (r : Fin 1024) (k : Fin 512) (f : Fin 1024)

/-- The slice of a row starts at its expert … -/
theorem start_expert (e : Fin 32) (h : (i (ix2 r (0 : Fin 1))).toNat = e.val) : fetch.start (ix4 r (0 : Fin 1) k f) (starts i) (0 : Fin 3) = e.val := by
  have hsi (p) : fetch.siIdx (ix4 r (0 : Fin 1) k f) ⟨0, p⟩ = ix2 r (0 : Fin 3) := by
    funext b
    match b with
    | ⟨0, _⟩ => rfl
    | ⟨1, _⟩ => rfl
  have he := e.isLt
  unfold GatherDims.start
  rw [dif_pos (show (0 : Fin 3) ∈ fetch.startIndexMap by decide)]
  refine (congrArg (fun q => min (starts i q).toInt.toNat 31) (hsi _)).trans ?_
  show min (starts i (ix2 r (0 : Fin 3))).toInt.toNat 31 = e.val
  rw [starts_apply, fetchRows_apply i r e h, WordArith.toInt_ofNat_small _ (by omega)]
  omega
/-- … and at the first entry along the two axes fetched whole. -/
theorem start_feature : fetch.start (ix4 r (0 : Fin 1) k f) (starts i) (1 : Fin 3) = 0 := Nat.le_zero.1 (fetch.start_le _ _ (1 : Fin 3))
theorem start_column : fetch.start (ix4 r (0 : Fin 1) k f) (starts i) (2 : Fin 3) = 0 := Nat.le_zero.1 (fetch.start_le _ _ (2 : Fin 3))

theorem mem_kept : ∀ a, a ∈ fetch.sKept := by decide

theorem off_expert : fetch.offCoord (ix4 r (0 : Fin 1) k f) (0 : Fin 3) = 0 := by
  unfold GatherDims.offCoord
  rw [dif_pos (mem_kept 0)]
  rfl
theorem off_feature : fetch.offCoord (ix4 r (0 : Fin 1) k f) (1 : Fin 3) = k.val := by
  unfold GatherDims.offCoord
  rw [dif_pos (mem_kept 1)]
  rfl
theorem off_column : fetch.offCoord (ix4 r (0 : Fin 1) k f) (2 : Fin 3) = f.val := by
  unfold GatherDims.offCoord
  rw [dif_pos (mem_kept 2)]
  rfl

/-- A row's matrix is the matrix of its expert. -/
theorem matrices_apply (W : FVec Ideal S32x512x1024 .f32) (e : Fin 32) (h : (i (ix2 r (0 : Fin 1))).toNat = e.val) :
    matrices i W (ix3 r k f) = W (ix3 e k f) := by
  refine (shapeCast_apply _ _ (ix3 r k f) (ix4 r (0 : Fin 1) k f) (by
    rw [Shape.rowMajor_val_four, Shape.rowMajor_val_three]
    show ((r.val * 1 + 0) * 512 + k.val) * 1024 + f.val = (r.val * 512 + k.val) * 1024 + f.val
    omega)).trans ?_
  unfold Host.gather
  refine congrArg W (funext fun a => Fin.ext ?_)
  show fetch.start (ix4 r (0 : Fin 1) k f) (starts i) a + fetch.batchCoord (ix4 r (0 : Fin 1) k f) a + fetch.offCoord (ix4 r (0 : Fin 1) k f) a = (ix3 e k f a).val
  rw [fetch.batchCoord_eq_zero _ _ List.not_mem_nil, Nat.add_zero]
  match a with
  | ⟨0, _⟩ => exact congrArg₂ (· + ·) (start_expert i r k f e h) (off_expert r k f)
  | ⟨1, _⟩ => exact (congrArg₂ (· + ·) (start_feature i r k f) (off_feature r k f)).trans (Nat.zero_add _)
  | ⟨2, _⟩ => exact (congrArg₂ (· + ·) (start_column i r k f) (off_column r k f)).trans (Nat.zero_add _)

end Fetch

/-- A row's product is the sum over the features. -/
theorem products_apply (x : FVec Ideal S1024x512 .f32) (i : IVec S1024x1 32) (W : FVec Ideal S32x512x1024 .f32) (r f : Fin 1024) :
    products x i W (ix2 r f) = ∑ k : Fin 512, x (ix2 r k) * matrices i W (ix3 r k f) := by
  refine (Ideal.dotGeneral_apply _ _ _ _ _ _).trans ?_
  rw [← Equiv.sum_comp (contrEquiv1 dot_S1024x512_S1024x512x1024_S1024x1024_1_1_n_2_0_0 512 rfl rfl).symm]
  refine Finset.sum_congr rfl fun k _ => ?_
  have c3 := contrEquiv1_symm_val dot_S1024x512_S1024x512x1024_S1024x1024_1_1_n_2_0_0 512 rfl rfl k
  have hl : dot_S1024x512_S1024x512x1024_S1024x1024_1_1_n_2_0_0.lhsIdx (ix2 r f) ((contrEquiv1 _ 512 rfl rfl).symm k) = ix2 r k := by
    funext a; apply Fin.ext
    match a with
    | ⟨0, _⟩ => simp [DotDims.lhsIdx, dot_S1024x512_S1024x512x1024_S1024x1024_1_1_n_2_0_0]; rfl
    | ⟨1, _⟩ => simp [DotDims.lhsIdx, dot_S1024x512_S1024x512x1024_S1024x1024_1_1_n_2_0_0]; exact c3
  have hr : dot_S1024x512_S1024x512x1024_S1024x1024_1_1_n_2_0_0.rhsIdx (ix2 r f) ((contrEquiv1 _ 512 rfl rfl).symm k) = ix3 r k f := by
    funext a; apply Fin.ext
    match a with
    | ⟨0, _⟩ => simp [DotDims.rhsIdx, dot_S1024x512_S1024x512x1024_S1024x1024_1_1_n_2_0_0]; rfl
    | ⟨1, _⟩ => simp [DotDims.rhsIdx, dot_S1024x512_S1024x512x1024_S1024x1024_1_1_n_2_0_0]; exact c3
    | ⟨2, _⟩ => simp [DotDims.rhsIdx, dot_S1024x512_S1024x512x1024_S1024x1024_1_1_n_2_0_0]; rfl
  rw [hl, hr]

/-- The reference is the routed product. -/
theorem refOut_eq (x : FVec Ideal S1024x512 .f32) (i : IVec S1024x1 32) (W : FVec Ideal S32x512x1024 .f32) : refOut x i W = routed x i W := by
  funext j
  obtain ⟨r, f, rfl⟩ : ∃ r f : Fin 1024, j = ix2 r f := ⟨j 0, j 1, eq_ix2 j⟩
  have hm : (broadcastInDim S1024x1024 ![0, 1] bcast_S1024x1_S1024x1024_0_1 (broadcastInDim S1024x1 ![0] bcast_S1024_S1024x1_0 (inTable i))) (ix2 r f)
      = IntOp.andi (IntOp.cmpi .sge (i (ix2 r (0 : Fin 1))) 0#32) (IntOp.cmpi .slt (i (ix2 r (0 : Fin 1))) 32#32) := by
    rw [broadcastInDim_apply _ _ _ (ix2 r f) (ix2 r (0 : Fin 1)) (fun a => by fin_cases a <;> rfl),
      broadcastInDim_apply _ _ _ (ix2 r (0 : Fin 1)) (ix1 r) (fun a => by fin_cases a; rfl), ← numbers_apply i r]
    rfl
  unfold refOut
  rw [select_apply, hm]
  show _ = if h : (i (ix2 r (0 : Fin 1))).toNat < 32 then rowCol x (fun k f => W (ix3 (⟨_, h⟩ : Fin 32) k f)) r f else 0
  by_cases h : (i (ix2 r (0 : Fin 1))).toNat < 32
  · rw [dif_pos h, (inTable_iff _).2 h, select_one, products_apply]
    exact Finset.sum_congr rfl fun k _ => by rw [matrices_apply i r k f W ⟨_, h⟩ rfl]
  · rw [dif_neg h, eq_zero_of_ne_one (mt (inTable_iff _).1 h), select_zero]
    exact Ideal.ofBits_zero_f32

end Cert.Hypercube

end
-- ==== Proof.Value.lean ====
/-
The claim about the value: on every device the kernel's result is the reference's.

What the body computes with are the arguments themselves, each staged whole; a device's expert matrices are its block of the full
table. The contributions then add up to the routed product, which is what the reference returns.
-/
module

public import proofs.«01_k».proof.Proof.Frames
public import proofs.«01_k».proof.Proof.Reference
public import Idealize.ShloMosaic.Lib.LayoutAt

@[expose] public section

noncomputable section

namespace Cert.Hypercube

open Cert.KernelIdeal Cert.KernelIdeal.Gen
open Idealize.ShloMosaic
open Idealize.ShloMosaic.TcCoe
open Idealize.SL.Sem
open Idealize.ShloMosaic.Pipeline
open Idealize.ShloMosaic.ValueIdx

/-! ## Each window is its whole array -/

section Whole
variable {F : FTy → Type} [FloatOps F]

theorem zeros (n : ℕ) (s : Fin n → ℕ) : (fun a => (fun _ => 0 : Fin n → ℕ) a * s a) = fun _ => 0 := funext fun a => Nat.zero_mul (s a)

theorem read_win0 (f : FVec F S1024x512 .f32) : (win0_0.blk (0 : Fin 1)).view.read (Elt F) f = f :=
  Memref.read_access_unit_zero (Elt F) main_arg0 (zeros _ _) _ f
theorem read_win1 (f : IVec S1024x1 32) : (win0_1.blk (0 : Fin 1)).view.read (Elt F) f = f :=
  Memref.read_access_unit_zero (Elt F) main_arg2 (zeros _ _) _ f
theorem read_win2 (f : FVec F S4x512x1024 .f32) : (win0_2.blk (0 : Fin 1)).view.read (Elt F) f = f :=
  Memref.read_access_unit_zero (Elt F) main_arg3 (zeros _ _) _ f
theorem read_win3 (f : FVec F S1024x1024 .f32) : (win0_3.blk (0 : Fin 1)).view.read (Elt F) f = f :=
  Memref.read_access_unit_zero (Elt F) main_v1 (zeros _ _) _ f

variable (m : (ℓ : Loc nD τ sig) → Buf (Elt F) ℓ)

/-- The run leaves the summed contributions in the result array of every device. -/
theorem result {r : PUnit × MemSt nD τ sig (Elt F)} (h : Ended m r) (c : Dev nD) : r.2.mem ((c : Thread nD τ).loc main_v1) = out (part m) :=
  ((h c).1 (3 : Fin 4)).trans ((read_win3 _).symm.trans (final_out m c))

end Whole

/-! ## The equation -/

/-- Where each device's matrices are its block of the full table, its expert `e` is the table's expert `4c + e`. -/
theorem block_expert (W : FVec Ideal ⟨3, ![32, 512, 1024]⟩ .f32) (c : Dev nD) (e : Fin 4) (k : Fin 512) (f : Fin 1024) :
    (Layout.block ⟨3, ![4, 512, 1024]⟩ ⟨3, ![32, 512, 1024]⟩ 0 8 c W : FVec Ideal S4x512x1024 .f32) (ix3 e k f) = W (ix3 (finProdFinEquiv (m := 8) (n := 4) (c, e)) k f) := by
  rw [Layout.block_apply]
  refine congrArg W (funext fun a => Fin.ext ?_)
  match a with
  | ⟨0, _⟩ => exact (Layout.Tiles.idx_val_self _ c (ix3 e k f) 0 rfl).trans (by show c.val * 4 + e.val = e.val + 4 * c.val; omega)
  | ⟨1, _⟩ => exact Layout.Tiles.idx_val_of_ne _ c (ix3 e k f) 1 Nat.one_ne_zero
  | ⟨2, _⟩ => exact Layout.Tiles.idx_val_of_ne _ c (ix3 e k f) 2 (Nat.succ_ne_zero 1)

/-- From the same rows and routing on every device, and each device's block of the experts, the summed contributions are the reference's result. -/
theorem out_eq_refOut (m : (ℓ : Loc nD τ sig) → Buf (Elt Ideal) ℓ) (x : FVec Ideal S1024x512 .f32) (i : IVec S1024x1 32)
    (W : FVec Ideal ⟨3, ![32, 512, 1024]⟩ .f32) (hx : ∀ c : Dev nD, m ((c : Thread nD τ).loc main_arg0) = x)
    (hi : ∀ c : Dev nD, m ((c : Thread nD τ).loc main_arg2) = i)
    (hW : ∀ c : Dev nD, m ((c : Thread nD τ).loc main_arg3) = Layout.block ⟨3, ![4, 512, 1024]⟩ ⟨3, ![32, 512, 1024]⟩ 0 8 c W) :
    out (part m) = refOut x i W := by
  have hp : part m = fun c => contrib c x i (Layout.block ⟨3, ![4, 512, 1024]⟩ ⟨3, ![32, 512, 1024]⟩ 0 8 c W) := funext fun c => by
    unfold part xOf idxOf wOf
    rw [hx c, hi c, hW c]
    exact congr (congr (congrArg (contrib c) (read_win0 x)) (read_win1 (F := Ideal) i)) (read_win2 _)
  rw [hp, refOut_eq]
  exact total x i W _ fun c e k f => block_expert W c e k f

/-- On the same arguments, the experts split over the devices, every run of the idealized kernel leaves on each device the value that the
    idealized reference computes, and both leave their arguments unchanged. -/
theorem value : Cert.algebraic_KernelIdeal_ReferenceIdeal := by
  intro m g m' g' _ hagree
  have e := out_eq_refOut m _ _ _ (fun c => (hagree c).1) (fun c => (hagree c).2.2.1) (fun c => (hagree c).2.2.2)
  exact ⟨_, (θ_run defs _ _).mono (fun r h c => ⟨(result m h.1 c).trans e, args_unchanged m h.1 c⟩) (run_main (F := Ideal) m g),
    (θ_run Cert.ReferenceIdeal.defs _ _).mono (fun r h => h 0) (Cert.ReferenceIdeal.Value.run (F := Ideal) m' g')⟩

end Cert.Hypercube

end
-- ==== Proof.lean ====
/-
  The certificate, assembled: the kernel and the reference end quietly, the idealized kernel is the kernel (no rewrites), and at extended
  reals every device ends with the reference's result.
-/
module

public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.Hypercube.frame_kernel, Cert.Hypercube.frame_kernelIdeal, Cert.Hypercube.frame_referenceIdeal, trivial,
    Cert.Hypercube.value⟩

end Cert.Proof

end
